-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x2 : Shape := ⟨2, ![16384, 2]⟩
abbrev S1000x128 : Shape := ⟨2, ![1000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : FVec F S1000x128 .f32) (main_arg2 : FVec F S1000x128 .f32) (main_arg3 : FVec F S256x128 .f32) (main_arg4 : FVec F S128 .f32) (main_arg5 : FVec F S128x128 .f32) (main_arg6 : FVec F S128 .f32) (main_arg7 : FVec F S128x1 .f32) (main_arg8 : FVec F S1 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 1000#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Kernel.lean ====
abbrev S16384x2 : Shape := ⟨2, ![16384, 2]⟩
abbrev S1000x128 : Shape := ⟨2, ![1000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S16384x1 : Shape := ⟨2, ![16384, 1]⟩
abbrev S16384 : Shape := ⟨1, ![16384]⟩
abbrev S2x32x2x128 : Shape := ⟨4, ![2, 32, 2, 128]⟩
abbrev S1x128 : Shape := ⟨2, ![1, 128]⟩
abbrev S1x1 : Shape := ⟨2, ![1, 1]⟩
abbrev S1x32x2x128 : Shape := ⟨4, ![1, 32, 2, 128]⟩
abbrev S32x2x128 : Shape := ⟨3, ![32, 2, 128]⟩
abbrev S8192x128 : Shape := ⟨2, ![8192, 128]⟩
abbrev S2x128 : Shape := ⟨2, ![2, 128]⟩
abbrev S_ : Shape := ⟨0, ![]⟩
abbrev S1x2x128 : Shape := ⟨3, ![1, 2, 128]⟩
abbrev S1x8192 : Shape := ⟨2, ![1, 8192]⟩
abbrev S1024x128 : Shape := ⟨2, ![1024, 128]⟩
abbrev S1x1024 : Shape := ⟨2, ![1, 1024]⟩
abbrev S1024 : Shape := ⟨1, ![1024]⟩
abbrev S1024x1 : Shape := ⟨2, ![1024, 1]⟩
abbrev S1x16384 : Shape := ⟨2, ![1, 16384]⟩

abbrev nBuf : Table → Nat
  | .hbm => 37
  | .local .tc .vmem => 26
  | .local .scVector .vmem => 6
  | _ => 0

abbrev bufTy : (tb : Table) → Fin (nBuf tb) → BufTy
  | .hbm, ⟨0, _⟩ => ⟨S16384x2, .i32⟩
  | .hbm, ⟨1, _⟩ => ⟨S1000x128, .f32⟩
  | .hbm, ⟨2, _⟩ => ⟨S1000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S16384x1, .i32⟩
  | .hbm, ⟨10, _⟩ => ⟨S16384, .i32⟩
  | .hbm, ⟨11, _⟩ => ⟨S2x32x2x128, .i32⟩
  | .hbm, ⟨12, _⟩ => ⟨S16384x1, .i32⟩
  | .hbm, ⟨13, _⟩ => ⟨S16384, .i32⟩
  | .hbm, ⟨14, _⟩ => ⟨S2x32x2x128, .i32⟩
  | .hbm, ⟨15, _⟩ => ⟨S128x128, .f32⟩
  | .hbm, ⟨16, _⟩ => ⟨S128x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x1, .f32⟩
  | .hbm, ⟨21, _⟩ => ⟨S1x32x2x128, .i32⟩
  | .hbm, ⟨22, _⟩ => ⟨S32x2x128, .i32⟩
  | .hbm, ⟨23, _⟩ => ⟨S1x32x2x128, .i32⟩
  | .hbm, ⟨24, _⟩ => ⟨S32x2x128, .i32⟩
  | .hbm, ⟨25, _⟩ => ⟨S8192x128, .f32⟩
  | .hbm, ⟨26, _⟩ => ⟨S8192x128, .f32⟩
  | .hbm, ⟨27, _⟩ => ⟨S1x8192, .f32⟩
  | .hbm, ⟨28, _⟩ => ⟨S1x32x2x128, .i32⟩
  | .hbm, ⟨29, _⟩ => ⟨S32x2x128, .i32⟩
  | .hbm, ⟨30, _⟩ => ⟨S1x32x2x128, .i32⟩
  | .hbm, ⟨31, _⟩ => ⟨S32x2x128, .i32⟩
  | .hbm, ⟨32, _⟩ => ⟨S8192x128, .f32⟩
  | .hbm, ⟨33, _⟩ => ⟨S8192x128, .f32⟩
  | .hbm, ⟨34, _⟩ => ⟨S1x8192, .f32⟩
  | .hbm, ⟨35, _⟩ => ⟨S1x16384, .f32⟩
  | .hbm, ⟨36, _⟩ => ⟨S16384x1, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S128x128, .f32⟩
  | .local .tc .vmem, ⟨5, _⟩ => ⟨S128x128, .f32⟩
  | .local .tc .vmem, ⟨6, _⟩ => ⟨S1x128, .f32⟩
  | .local .tc .vmem, ⟨7, _⟩ => ⟨S128x128, .f32⟩
  | .local .tc .vmem, ⟨8, _⟩ => ⟨S1x128, .f32⟩
  | .local .tc .vmem, ⟨9, _⟩ => ⟨S1x128, .f32⟩
  | .local .tc .vmem, ⟨10, _⟩ => ⟨S1x1, .f32⟩
  | .local .tc .vmem, ⟨11, _⟩ => ⟨S1x1024, .f32⟩
  | .local .tc .vmem, ⟨12, _⟩ => ⟨S1x1024, .f32⟩
  | .local .tc .vmem, ⟨13, _⟩ => ⟨S1024x128, .f32⟩
  | .local .tc .vmem, ⟨14, _⟩ => ⟨S1024x128, .f32⟩
  | .local .tc .vmem, ⟨15, _⟩ => ⟨S1024x128, .f32⟩
  | .local .tc .vmem, ⟨16, _⟩ => ⟨S1024x128, .f32⟩
  | .local .tc .vmem, ⟨17, _⟩ => ⟨S128x128, .f32⟩
  | .local .tc .vmem, ⟨18, _⟩ => ⟨S128x128, .f32⟩
  | .local .tc .vmem, ⟨19, _⟩ => ⟨S1x128, .f32⟩
  | .local .tc .vmem, ⟨20, _⟩ => ⟨S128x128, .f32⟩
  | .local .tc .vmem, ⟨21, _⟩ => ⟨S1x128, .f32⟩
  | .local .tc .vmem, ⟨22, _⟩ => ⟨S1x128, .f32⟩
  | .local .tc .vmem, ⟨23, _⟩ => ⟨S1x1, .f32⟩
  | .local .tc .vmem, ⟨24, _⟩ => ⟨S1x1024, .f32⟩
  | .local .tc .vmem, ⟨25, _⟩ => ⟨S1x1024, .f32⟩
  | .local .scVector .vmem, ⟨0, _⟩ => ⟨S2x128, .i32⟩
  | .local .scVector .vmem, ⟨1, _⟩ => ⟨S2x128, .i32⟩
  | .local .scVector .vmem, ⟨2, _⟩ => ⟨S256x128, .f32⟩
  | .local .scVector .vmem, ⟨3, _⟩ => ⟨S2x128, .i32⟩
  | .local .scVector .vmem, ⟨4, _⟩ => ⟨S2x128, .i32⟩
  | .local .scVector .vmem, ⟨5, _⟩ => ⟨S256x128, .f32⟩
  | _, _ => ⟨S16384x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v13_scv : Ref sig .scVector := ⟨.hbm, 22, rfl⟩
abbrev main_v15_scv : Ref sig .scVector := ⟨.hbm, 24, rfl⟩
abbrev main_arg1_scv : Ref sig .scVector := ⟨.hbm, 1, rfl⟩
abbrev main_arg2_scv : Ref sig .scVector := ⟨.hbm, 2, rfl⟩
abbrev main_v16_0_scv : Ref sig .scVector := ⟨.hbm, 25, rfl⟩
abbrev main_v16_1_scv : Ref sig .scVector := ⟨.hbm, 26, rfl⟩
abbrev main_v19_scv : Ref sig .scVector := ⟨.hbm, 29, rfl⟩
abbrev main_v21_scv : Ref sig .scVector := ⟨.hbm, 31, rfl⟩
abbrev main_v22_0_scv : Ref sig .scVector := ⟨.hbm, 32, rfl⟩
abbrev main_v22_1_scv : Ref sig .scVector := ⟨.hbm, 33, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg9_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc3_stg8_0 : Ref sig .tc := ⟨.vmem, 23, rfl⟩
abbrev cc3_stg9_0 : Ref sig .tc := ⟨.vmem, 24, rfl⟩
abbrev cc3_stg9_1 : Ref sig .tc := ⟨.vmem, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem9_1 : DmaSem sig := 35
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_45_r0 : BitVec 32 := 0#32
  let c0_i32_46_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_45_r2 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_45_r0 : BitVec 32 := 0#32
  let c0_i32_46_r0 : BitVec 32 := 0#32
  ![v1.toNat, 0, 0]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_45_r2 : BitVec 32 := 0#32
  ![v2.toNat, 0]
abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S16384x2 : Shape := ⟨2, ![16384, 2]⟩
abbrev S1000x128 : Shape := ⟨2, ![1000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x128 : Shape := ⟨2, ![16384, 128]⟩
abbrev S16384x256 : Shape := ⟨2, ![16384, 256]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S1000x128, .f32⟩
  | .hbm, ⟨2, _⟩ => ⟨S1000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S16384x1, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S1x1, .i32⟩
  | .hbm, ⟨24, _⟩ => ⟨S16384x1, .i32⟩
  | .hbm, ⟨25, _⟩ => ⟨S16384x1, .i1⟩
  | .hbm, ⟨26, _⟩ => ⟨S16384x1, .i1⟩
  | .hbm, ⟨27, _⟩ => ⟨S_, .i1⟩
  | .hbm, ⟨28, _⟩ => ⟨S16384, .i1⟩
  | .hbm, ⟨29, _⟩ => ⟨S16384x128, .f32⟩
  | .hbm, ⟨30, _⟩ => ⟨S16384x128, .i1⟩
  | .hbm, ⟨31, _⟩ => ⟨S_, .f32⟩
  | .hbm, ⟨32, _⟩ => ⟨S16384x128, .f32⟩
  | .hbm, ⟨33, _⟩ => ⟨S16384x128, .f32⟩
  | .hbm, ⟨34, _⟩ => ⟨S16384x1, .i32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S16384x1, .i32⟩
  | .hbm, ⟨44, _⟩ => ⟨S1, .i32⟩
  | .hbm, ⟨45, _⟩ => ⟨S_, .i32⟩
  | .hbm, ⟨46, _⟩ => ⟨S16384x1, .i32⟩
  | .hbm, ⟨47, _⟩ => ⟨S16384x1, .i1⟩
  | .hbm, ⟨48, _⟩ => ⟨S1x1, .i32⟩
  | .hbm, ⟨49, _⟩ => ⟨S16384x1, .i32⟩
  | .hbm, ⟨50, _⟩ => ⟨S16384x1, .i1⟩
  | .hbm, ⟨51, _⟩ => ⟨S16384x1, .i1⟩
  | .hbm, ⟨52, _⟩ => ⟨S_, .i1⟩
  | .hbm, ⟨53, _⟩ => ⟨S16384, .i1⟩
  | .hbm, ⟨54, _⟩ => ⟨S16384x128, .f32⟩
  | .hbm, ⟨55, _⟩ => ⟨S16384x128, .i1⟩
  | .hbm, ⟨56, _⟩ => ⟨S_, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x128, .f32⟩
  | .hbm, ⟨69, _⟩ => ⟨S16384x128, .f32⟩
  | .hbm, ⟨70, _⟩ => ⟨S16384x128, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x128, .f32⟩
  | .hbm, ⟨80, _⟩ => ⟨S16384x128, .f32⟩
  | .hbm, ⟨81, _⟩ => ⟨S16384x256, .f32⟩
  | .hbm, ⟨82, _⟩ => ⟨S16384x128, .f32⟩
  | .hbm, ⟨83, _⟩ => ⟨S1x128, .f32⟩
  | .hbm, ⟨84, _⟩ => ⟨S16384x128, .f32⟩
  | .hbm, ⟨85, _⟩ => ⟨S16384x128, .f32⟩
  | .hbm, ⟨86, _⟩ => ⟨S_, .f32⟩
  | .hbm, ⟨87, _⟩ => ⟨S16384x128, .f32⟩
  | .hbm, ⟨88, _⟩ => ⟨S16384x128, .f32⟩
  | .hbm, ⟨89, _⟩ => ⟨S16384x128, .f32⟩
  | .hbm, ⟨90, _⟩ => ⟨S1x128, .f32⟩
  | .hbm, ⟨91, _⟩ => ⟨S16384x128, .f32⟩
  | .hbm, ⟨92, _⟩ => ⟨S16384x128, .f32⟩
  | .hbm, ⟨93, _⟩ => ⟨S_, .f32⟩
  | .hbm, ⟨94, _⟩ => ⟨S16384x128, .f32⟩
  | .hbm, ⟨95, _⟩ => ⟨S16384x128, .f32⟩
  | .hbm, ⟨96, _⟩ => ⟨S16384x1, .f32⟩
  | .hbm, ⟨97, _⟩ => ⟨S1x1, .f32⟩
  | .hbm, ⟨98, _⟩ => ⟨S16384x1, .f32⟩
  | .hbm, ⟨99, _⟩ => ⟨S16384x1, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_call2_v2 : Ref sig .tc := ⟨.hbm, 62, rfl⟩
abbrev main_v6 : Ref sig .tc := ⟨.hbm, 63, rfl⟩
abbrev main_cst : Ref sig .tc := ⟨.hbm, 64, rfl⟩
abbrev main_call3_v0 : Ref sig .tc := ⟨.hbm, 65, rfl⟩
abbrev main_call3_v1 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_call4_v0 : Ref sig .tc := ⟨.hbm, 70, rfl⟩
abbrev main_call4_cst : Ref sig .tc := ⟨.hbm, 71, rfl⟩
abbrev main_call4_v1 : Ref sig .tc := ⟨.hbm, 72, rfl⟩
abbrev main_call4_v2 : Ref sig .tc := ⟨.hbm, 73, rfl⟩
abbrev main_v10 : Ref sig .tc := ⟨.hbm, 74, rfl⟩
abbrev main_cst_0 : Ref sig .tc := ⟨.hbm, 75, rfl⟩
abbrev main_call5_v0 : Ref sig .tc := ⟨.hbm, 76, rfl⟩
abbrev main_call5_v1 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_call6_cst : Ref sig .tc := ⟨.hbm, 86, rfl⟩
abbrev main_call6_v0 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_call7_cst : Ref sig .tc := ⟨.hbm, 93, rfl⟩
abbrev main_call7_v0 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩

abbrev nD : Nat := 1
abbrev τ : Topo := Topo.v7x

variable {F : FTy → Type} [FloatOps F]
-- ==== Proof.GatherBatch.lean ====
/-
  Several indirect gathers started on one semaphore before any of them is waited for.

  Each row of each gather is one transfer of a batch: the batch's deliveries are named before the first start, a start of
  a gather of `o` rows uses up the next `o` of them, and only the wait that drains the batch hands the rows back.
-/
module

public import Idealize.ShloMosaic.Lib.Batch
public import Idealize.ShloMosaic.Lib.SparseCore.Stream

@[expose] public section

noncomputable section

namespace Cert.Rows

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- The first `o` of what is pending from `k`, taken out together. -/
theorem pending_take {n o : ℕ} (Φ : Fin n → sProp 𝕄) (k : ℕ) (h : k + o ≤ n) :
    bigSep (pending k) Φ = iprop(bigSep Finset.univ (fun j : Fin o => Φ ⟨k + j.val, by omega⟩) ∗ bigSep (pending (k + o)) Φ) := by
  let em : Fin o ↪ Fin n := ⟨fun j => ⟨k + j.val, by omega⟩, fun a b h => Fin.ext (Nat.add_left_cancel (Fin.ext_iff.mp h))⟩
  have hem : ∀ j, (em j).val = k + j.val := fun _ => rfl
  have hset : pending (n := n) k = Finset.univ.map em ∪ pending (k + o) := by
    ext t
    rw [Finset.mem_union, Finset.mem_map, pending, pending, Finset.mem_filter, Finset.mem_filter]
    constructor
    · rintro ⟨-, hk⟩
      by_cases hc : k + o ≤ t.val
      · exact Or.inr ⟨Finset.mem_univ _, hc⟩
      · exact Or.inl ⟨⟨t.val - k, by omega⟩, Finset.mem_univ _, Fin.ext ((hem _).trans (Nat.add_sub_cancel' hk))⟩
    · rintro (⟨j, -, rfl⟩ | ⟨-, hc⟩)
      · exact ⟨Finset.mem_univ _, by rw [hem]; omega⟩
      · exact ⟨Finset.mem_univ _, by omega⟩
  have hdis : Disjoint (Finset.univ.map em) (pending (n := n) (k + o)) := by
    rw [Finset.disjoint_left]
    intro t h1 h2
    obtain ⟨j, -, rfl⟩ := Finset.mem_map.mp h1
    rw [pending, Finset.mem_filter, hem] at h2
    omega
  rw [hset, bigSep_union' hdis]
  exact congrArg (fun X => iprop(X ∗ bigSep (pending (k + o)) Φ)) (BI.bigSep_map em)

variable (c : Thread nD τ) {sp : Space} {s₀ s si : Shape} {e : EltTy} {a : Nat}

/-- What row `j` of a gather hands back once it has landed: the row of the destination, written with the row of the
    source the list names, the list's entry, and the row's share of the source. -/
def landed (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop((dst.view.loc c ↦[(dst.view.slice (s.rowRect hg.axis' j)).set]{fullShare}
          ((dst.view.slice (s.rowRect hg.axis' j)).write (Elt F) fd
            (fun i : (s.rowShape hg.axis').Idx => src.view.read (Elt F) fs (hg.rowIdx (rows (offs.view.read (Elt F) fo) hn hin j) i)) Finset.univ))
    ∗ (offs.view.loc c ↦[{offs.view.emb (si.rowMajor.symm (j.cast hn.symm))}]{qo} fo)
    ∗ (src.view.loc c ↦[src.view.set]{pieceOf q _ (Shape.size_pos_of_numel_pos hs hg.axis') j} fs))

instance landed_storable (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (landed (Name := Name) (U := U) (Lvl := Lvl) (Ix := Ix) c src dst hg offs hn hs q qo fs fd fo hin j) := by
  unfold landed; infer_instance

variable {src : Memref sig c.2.kind sp s₀ e} {dst : Memref sig c.2.kind .vmem s e} {hg : s₀.Gathers a s}
  {offs : Memref sig c.2.kind .vmem si .i32} {hn : si.numel = s.size hg.axis'} {hs : 0 < s.numel}
  {q qo : PosShare TreeShare} {fs : Buf (Elt F) (src.view.loc c)} {fd : Buf (Elt F) (dst.view.loc c)} {fo : Buf (Elt F) (offs.view.loc c)}
  {hin : ∀ x, (offs.view.read (Elt F) fo x).toNat < s₀.size hg.axis}

/-- All the rows of a gather together: the destination holds the gathered rows, and the list and the source are back. -/
theorem landed_all :
    bigSep Finset.univ (landed (Name := Name) (U := U) (Lvl := Lvl) (Ix := Ix) c src dst hg offs hn hs q qo fs fd fo hin)
      ⊢ iprop((dst.view.loc c ↦[dst.view.set]{fullShare}
              (dst.view.write (Elt F) fd (gatherPayload hg (src.view.read (Elt F) fs) (rows (offs.view.read (Elt F) fo) hn hin)) Finset.univ))
          ∗ (offs.view.loc c ↦[offs.view.set]{qo} fo) ∗ (src.view.loc c ↦[src.view.set]{q} fs)) := by
  have hen : Function.Bijective fun j : Fin (s.size hg.axis') => si.rowMajor.symm (j.cast hn.symm) :=
    si.rowMajor.symm.bijective.comp (finCongr hn.symm).bijective
  unfold landed
  iintro H
  ihave H := (bigSep_sep_out _ _ _) $$ H
  icases H with ⟨Hd, H⟩
  ihave H := (bigSep_sep_out _ _ _) $$ H
  icases H with ⟨Ho, Hs⟩
  isplitl [Hd]
  · iapply (pointsTo_rows_write (Ix := Ix) (Name := Name) (U := U) (Lvl := Lvl) c dst.view hg.axis' fd
      (fun j (i : (s.rowShape hg.axis').Idx) => src.view.read (Elt F) fs (hg.rowIdx (rows (offs.view.read (Elt F) fo) hn hin j) i))
      (gatherPayload hg (src.view.read (Elt F) fs) (rows (offs.view.read (Elt F) fo) hn hin)) fun j i => by
        unfold gatherPayload; rw [Shape.Gathers.idx_rowRect_emb]) $$ Hd
  isplitl [Ho]
  · iapply (Entails.of_eq (pointsTo_entries c offs.view _ hen qo fo).symm) $$ Ho
  · iapply (Entails.of_eq (pointsTo_piecesOf (src.view.set) fs (Shape.size_pos_of_numel_pos hs hg.axis') q).symm) $$ Hs

variable [Preorder Lvl] {Λ : Labels} {defs : Defs nD τ sig (Elt F) Λ} (EC : UEmb Counters (MT nD τ sig Ix (Elt F) Name U Lvl)) (𝒱 : Variants)
variable (bd : Option 𝒱.V) {α : Type} {Q : α → sProp (MT nD τ sig Ix (Elt F) Name U Lvl)}

/-- Starting a gather of `o` rows on a semaphore whose batch has its first `k` transfers started: the next `o` are
    started, their deliveries the gather's rows. -/
theorem wp_gatherBatch [Infinite Name] [EC.LandsIn (upEmb : UEmb _ 𝕄)] {sem : DmaSem sig}
    {hp : c.2.kind = .scVector} {hsrc : src.view.WordExact} {he : e.bits = 32} {hsp : sp = .hbm ∨ sp = .shared} {hr : s₀.StreamRows a}
    {kn : PUnit → Prog (TpuEff nD τ sig (Elt F) Λ c.2) α} (ι : Ix) {n N k u : ℕ} {B : Fin n → sProp 𝕄}
    (hN : ∀ j, (dst.slice (s.rowRect hg.axis' j) (s.stride_rowRect hg.axis' j)).view.dmaCredit = N)
    (hk : k + s.size hg.axis' ≤ n) (hu : u ≤ k * N)
    (hB : ∀ j : Fin (s.size hg.axis'), landed c src dst hg offs hn hs q qo fs fd fo hin j ⊢ B ⟨k + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N B k u)
      ⊢ iprop((Batch EC c (.dma sem) ι N B (k + s.size hg.axis') u -∗ wp frame (wpE defs 𝒱 c bd) Set.univ (kn ⟨⟩) Q)
          -∗ wp frame (wpE defs 𝒱 c bd) Set.univ (enqueueIndirectGather hp src dst hg offs hn sem hsrc he hsp hr >>= kn) Q) := by
  rw [enqueueIndirectGather_bind]
  have ho : 0 < s.size hg.axis' := Shape.size_pos_of_numel_pos hs _
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have hagree : S.RowsAgree := by
    intro j x x' ρ ρ' h h'
    obtain ⟨y, -, rfl⟩ := Option.map_eq_some_iff.mp h
    obtain ⟨y', -, rfl⟩ := Option.map_eq_some_iff.mp h'
    rfl
  have hnamed : ∀ j, S.row j (S.word fo j) = some (rd j) := fun j => by
    show (rowOf (s₀.size hg.axis) (offs.view.read (Elt F) fo (S.entry j))).map _ = _
    rw [rowOf_of_lt (hin _)]; rfl
  have hen : Function.Bijective S.entry := si.rowMajor.symm.bijective.comp (finCongr hn.symm).bijective
  have htot : ∑ j, (rd j).dst.view.dmaCredit = s.size hg.axis' * N := by
    rw [Finset.sum_congr rfl (fun j _ => hN j), Finset.sum_const, Finset.card_univ, Fintype.card_fin, smul_eq_mul]
  unfold Batch
  iintro ⟨Hs, Hd, Ho, ⟨%γ, %γ₀, %κ, #Hinv, HI, H0, Hcred⟩⟩ Hk
  ihave HI := (Entails.of_eq (pending_take (fun t => count EC (γ t) 0) k hk)) $$ HI
  icases HI with ⟨Hγ, HI⟩
  ihave Hd := (Entails.of_eq (pointsTo_rows c dst.view hg.axis' fullShare fd)) $$ Hd
  ihave Ho := (Entails.of_eq (pointsTo_entries c offs.view S.entry hen qo fo)) $$ Ho
  ihave Hs := (Entails.of_eq (pointsTo_piecesOf (src.view.set) fs ho q)) $$ Hs
  iapply (wp_enqueueIndirectDma 𝒱 c bd Set.univ (qo := qo) (fo := fo) (rd := rd) ι (s.size hg.axis' * N) hagree hnamed htot) $$ [Hd Ho Hs Hγ]
  · have hrow : ∀ j : Fin (s.size hg.axis'), iprop(inv κ (batchBody EC (c, SemLoc.dma sem) N B γ γ₀)
          ∗ (((dst.view.loc c ↦[(dst.view.slice (s.rowRect hg.axis' j)).set]{fullShare} fd) ∗ S.heldEntry qo fo j)
            ∗ (src.view.loc c ↦[src.view.set]{pieceOf q _ ho j} fs)) ∗ count EC (γ ⟨k + j.val, by omega⟩) 0)
        ⊢ iprop(S.heldEntry qo fo j ∗ (S.heldEntry qo fo j -∗ rowRes c (rd j))) := fun j => by
      iintro ⟨#Hinv, ⟨⟨Hr, He⟩, Hsq⟩, Hγ⟩
      isplitl [He]; · iexact He
      iintro He
      unfold rowRes
      iexists pieceOf q _ ho j, fs, iprop((dst.view.loc c ↦[(dst.view.slice (s.rowRect hg.axis' j)).set]{fullShare}
          ((dst.view.slice (s.rowRect hg.axis' j)).write (Elt F) fd
            (fun i : (s.rowShape hg.axis').Idx => src.view.read (Elt F) fs (hg.rowIdx (rows (offs.view.read (Elt F) fo) hn hin j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hdel : iprop(((dst.view.loc c ↦[(dst.view.slice (s.rowRect hg.axis' j)).set]{fullShare}
            ((dst.view.slice (s.rowRect hg.axis' j)).write (Elt F) fd
              (fun i : (s.rowShape hg.axis').Idx => src.view.read (Elt F) fs (hg.rowIdx (rows (offs.view.read (Elt F) fo) hn hin j) i)) Finset.univ)) ∗ S.heldEntry qo fo j)
            ∗ (src.view.loc c ↦[src.view.set]{pieceOf q _ ho j} fs)) ⊢ B ⟨k + j.val, by omega⟩ := by
          iintro ⟨⟨H1, H2⟩, H3⟩
          iapply (hB j)
          unfold landed
          isplitl [H1]; · iexact H1
          isplitl [H2]; · iexact H2
          iexact H3
        have hc := batch_creditUpdate EC (g := (c, SemLoc.dma sem)) (N := N) (γ := γ) (γ₀ := γ₀) (ι := κ) ⟨k + j.val, by omega⟩ hdel
        rw [← hN j] at hc
        iapply hc
        isplitr; · rw [hN j]; iexact Hinv
        iexact Hγ
    unfold Stream.res
    ihave H1 := bigSep_sep_in _ _ _ $$ [Hd Ho]; · isplitl [Hd] <;> iassumption
    ihave H2 := bigSep_sep_in _ _ _ $$ [H1 Hs]; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  · iintro Hc
    iapply Hk
    iexists γ, γ₀, κ
    isplitr; · iexact Hinv
    isplitl [HI]; · iexact HI
    isplitl [H0]; · iexact H0
    rw [show (k + s.size hg.axis') * N - u = (k * N - u) + s.size hg.axis' * N by rw [Nat.add_mul]; omega, ← tallyAt_add]
    icombine Hcred Hc as H
    iexact H

end Cert.Rows

end
-- ==== Proof.Picked.lean ====
/-
  Which rows two gathers of 128 rows put into a tile's array of 256 rows.

  The list of a tile is a [2, 128] array of row numbers; each of its two rows drives one gather, into one half of the array.
-/
module

public import Idealize.ShloMosaic.Lib.SparseCore.Stream
public import Idealize.ShloMosaic.Lib.Pointwise.Index
public import proofs.«01_k».proof.Proof.Gen.KernelIdeal.Skeleton

@[expose] public section

noncomputable section

namespace Cert.Rows

open Cert.KernelIdeal Cert.KernelIdeal.Gen
open Idealize.ShloMosaic Idealize.ShloMosaic.SparseCore

variable {F : FTy → Type} {κ : Kind} {sp sp₁ sp₂ : Space}

/-- The whole table, as the gathers name it. -/
abbrev tableOf {e : EltTy} (tb : Memref sig κ sp S1000x128 e) : Memref sig κ sp S1000x128 e :=
  tb.slice (Rect.unit (s := S1000x128) ![0, 0] S1000x128.size inb_S1000x128_S1000x128_0_0) (fun _ => rfl)

/-- The first half of a tile's array. -/
abbrev topOf {e : EltTy} (dst : Memref sig κ sp S256x128 e) : Memref sig κ sp S128x128 e :=
  dst.slice (Rect.unit (s := S256x128) ![0, 0] S128x128.size inb_S256x128_S128x128_0_0) (fun _ => rfl)

/-- Its second half. -/
abbrev botOf {e : EltTy} (dst : Memref sig κ sp S256x128 e) : Memref sig κ sp S128x128 e :=
  dst.slice (Rect.unit (s := S256x128) ![128, 0] S128x128.size inb_S256x128_S128x128_128_0) (fun _ => rfl)

/-- The first row of a tile's list. -/
abbrev list0 (l : Memref sig κ sp S2x128 .i32) : Memref sig κ sp S128 .i32 :=
  (l.slice (Rect.unit (s := S2x128) ![0, 0] S1x128.size inb_S2x128_S1x128_0_0) (fun _ => rfl)).squeeze S128 squeezes_S1x128_S128

/-- Its second row. -/
abbrev list1 (l : Memref sig κ sp S2x128 .i32) : Memref sig κ sp S128 .i32 :=
  (l.slice (Rect.unit (s := S2x128) ![1, 0] S1x128.size inb_S2x128_S1x128_1_0) (fun _ => rfl)).squeeze S128 squeezes_S1x128_S128

/-- The row of the table a word names. -/
def rowNo (w : BitVec 32) : Fin 1000 := ⟨w.toNat % 1000, Nat.mod_lt _ (by decide)⟩

/-- Row `r` of the result is the table's row named by entry `(r / 128, r % 128)` of the list. -/
def picked {α : Type} (l : S2x128.Idx → BitVec 32) (tb : S1000x128.Idx → α) : S256x128.Idx → α := fun x =>
  have h0 : (x 0).val < 256 := (x 0).isLt
  tb (ix2 (rowNo (l (ix2 (⟨(x 0).val / 128, by omega⟩ : Fin 2) (⟨(x 0).val % 128, by omega⟩ : Fin 128)))) (x 1))

/-- Entry `k` of the list's first row, read through the row. -/
theorem read_list0 (l : Memref sig κ sp S2x128 .i32) (fl : l.view.ty.Contents (Elt F)) (x : S128.Idx) (k : Fin 128)
    (h : (S128.rowMajor x).val = k.val) : (list0 l).view.read (Elt F) fl x = l.view.read (Elt F) fl (ix2 (0 : Fin 2) k) := by
  have e : Shape.reshapeEquiv (squeezes_S1x128_S128).numel_eq x = ix2 (0 : Fin 1) k :=
    Shape.reshapeEquiv_eq_of_rowMajor _ (by rw [h, Shape.rowMajor_val_two]; show 0 * 128 + k.val = k.val; omega)
  have e' : (list0 l).view.emb x = l.view.emb (ix2 (0 : Fin 2) k) := by
    show l.view.emb ((Rect.unit (s := S2x128) ![0, 0] S1x128.size inb_S2x128_S1x128_0_0).emb (Shape.reshapeEquiv (squeezes_S1x128_S128).numel_eq x)) = _
    rw [e]
    refine congrArg l.view.emb (funext fun a => Fin.ext ?_)
    match a with
    | ⟨0, _⟩ => rfl
    | ⟨1, _⟩ => show 0 + 1 * k.val = k.val; omega
  rw [View.read_apply, View.read_apply, e']

/-- Entry `k` of the list's second row, read through the row. -/
theorem read_list1 (l : Memref sig κ sp S2x128 .i32) (fl : l.view.ty.Contents (Elt F)) (x : S128.Idx) (k : Fin 128)
    (h : (S128.rowMajor x).val = k.val) : (list1 l).view.read (Elt F) fl x = l.view.read (Elt F) fl (ix2 (1 : Fin 2) k) := by
  have e : Shape.reshapeEquiv (squeezes_S1x128_S128).numel_eq x = ix2 (0 : Fin 1) k :=
    Shape.reshapeEquiv_eq_of_rowMajor _ (by rw [h, Shape.rowMajor_val_two]; show 0 * 128 + k.val = k.val; omega)
  have e' : (list1 l).view.emb x = l.view.emb (ix2 (1 : Fin 2) k) := by
    show l.view.emb ((Rect.unit (s := S2x128) ![1, 0] S1x128.size inb_S2x128_S1x128_1_0).emb (Shape.reshapeEquiv (squeezes_S1x128_S128).numel_eq x)) = _
    rw [e]
    refine congrArg l.view.emb (funext fun a => Fin.ext ?_)
    match a with
    | ⟨0, _⟩ => rfl
    | ⟨1, _⟩ => show 0 + 1 * k.val = k.val; omega
  rw [View.read_apply, View.read_apply, e']

/-- Words that all name rows of the table do so through the list's rows as well. -/
theorem list0_lt (l : Memref sig κ sp S2x128 .i32) (fl : l.view.ty.Contents (Elt F))
    (h : ∀ x, (l.view.read (Elt F) fl x).toNat < 1000) (x : S128.Idx) :
    ((list0 l).view.read (Elt F) fl x).toNat < S1000x128.size gathers_S1000x128_S128x128.axis := by
  rw [read_list0 l fl x (S128.rowMajor x) rfl]; exact h _

theorem list1_lt (l : Memref sig κ sp S2x128 .i32) (fl : l.view.ty.Contents (Elt F))
    (h : ∀ x, (l.view.read (Elt F) fl x).toNat < 1000) (x : S128.Idx) :
    ((list1 l).view.read (Elt F) fl x).toNat < S1000x128.size gathers_S1000x128_S128x128.axis := by
  rw [read_list1 l fl x (S128.rowMajor x) rfl]; exact h _

/-- The table read whole is the table. -/
theorem read_tableOf {e : EltTy} (tb : Memref sig κ sp S1000x128 e) (ft : tb.view.ty.Contents (Elt F)) (x : S1000x128.Idx) :
    (tableOf tb).view.read (Elt F) ft x = tb.view.read (Elt F) ft x := by
  have e' : (tableOf tb).view.emb x = tb.view.emb x := by
    show tb.view.emb ((Rect.unit (s := S1000x128) ![0, 0] S1000x128.size inb_S1000x128_S1000x128_0_0).emb x) = _
    refine congrArg tb.view.emb (funext fun a => Fin.ext ?_)
    match a with
    | ⟨0, _⟩ => show 0 + 1 * (x 0).val = (x 0).val; omega
    | ⟨1, _⟩ => show 0 + 1 * (x 1).val = (x 1).val; omega
  rw [View.read_apply, View.read_apply, e']

/-- A gather's payload at row `k`, lane `j`: the table at the row the list's entry `k` names. -/
theorem payload_apply {α : Type} (g : S1000x128.Idx → α) (l : S128.Idx → BitVec 32)
    (hin : ∀ x, (l x).toNat < S1000x128.size gathers_S1000x128_S128x128.axis) (k j : Fin 128) :
    g (gathers_S1000x128_S128x128.idx (rows (F := F) l rfl hin) (ix2 k j)) = g (ix2 (rowNo (l (S128.rowMajor.symm k))) j) := by
  refine congrArg g (funext fun a => ?_)
  match a with
  | ⟨0, _⟩ =>
    refine (Shape.Gathers.idx_axis gathers_S1000x128_S128x128 (rows (F := F) l rfl hin) (ix2 k j)).trans (Fin.ext ?_)
    exact (Nat.mod_eq_of_lt (hin (S128.rowMajor.symm k))).symm
  | ⟨1, h1⟩ =>
    refine Fin.ext ?_
    rw [Shape.Gathers.idx_of_ne gathers_S1000x128_S128x128 (rows (F := F) l rfl hin) (ix2 k j) ⟨1, h1⟩ (Nat.succ_ne_self 0)]
    rfl

variable {e : EltTy}

/-- After both gathers the tile's array holds the rows its list names. -/
theorem read_picked (tb : Memref sig κ sp S1000x128 e) (dst : Memref sig κ sp₁ S256x128 e) (l : Memref sig κ sp₂ S2x128 .i32)
    (ft : tb.view.ty.Contents (Elt F)) (fd : dst.view.ty.Contents (Elt F)) (fl : l.view.ty.Contents (Elt F))
    (h : ∀ x, (l.view.read (Elt F) fl x).toNat < 1000) :
    dst.view.read (Elt F) ((botOf dst).view.write (Elt F)
        ((topOf dst).view.write (Elt F) fd
          (gatherPayload gathers_S1000x128_S128x128 ((tableOf tb).view.read (Elt F) ft) (rows ((list0 l).view.read (Elt F) fl) rfl (list0_lt l fl h))) Finset.univ)
        (gatherPayload gathers_S1000x128_S128x128 ((tableOf tb).view.read (Elt F) ft) (rows ((list1 l).view.read (Elt F) fl) rfl (list1_lt l fl h))) Finset.univ)
      = picked (l.view.read (Elt F) fl) (tb.view.read (Elt F) ft) := by
  funext x
  obtain ⟨r, j, rfl⟩ : ∃ (r : Fin 256) (j : Fin 128), x = ix2 r j := ⟨x 0, x 1, eq_ix2 x⟩
  have hr := r.isLt
  by_cases hc : r.val < 128
  · have hx : (ix2 r j : S256x128.Idx)
        = (Rect.unit (s := S256x128) ![0, 0] S128x128.size inb_S256x128_S128x128_0_0).emb (ix2 (⟨r.val, hc⟩ : Fin 128) j) :=
      funext fun a => Fin.ext (match a with
        | ⟨0, _⟩ => by show r.val = 0 + 1 * r.val; omega
        | ⟨1, _⟩ => by show j.val = 0 + 1 * j.val; omega)
    have hout : (ix2 r j : S256x128.Idx) ∉ Finset.univ.map (Rect.unit (s := S256x128) ![128, 0] S128x128.size inb_S256x128_S128x128_128_0).emb := by
      rw [Rect.map_emb_univ, Rect.mem_set_unit]
      intro h'
      have : 128 ≤ r.val := (h' 0).1
      omega
    refine (View.read_slice_write_of_not_mem (v := dst.view) _ _ _ _ hout).trans ?_
    rw [hx]
    refine (View.read_slice_write_emb (v := dst.view) _ _ _ (Finset.mem_univ _)).trans ?_
    refine (payload_apply (F := F) _ _ _ _ _).trans ?_
    rw [read_tableOf, read_list0 l fl _ ⟨r.val, hc⟩ (congrArg Fin.val (Equiv.apply_symm_apply S128.rowMajor _)), ← hx]
    unfold picked
    have e0 : (⟨r.val / 128, by omega⟩ : Fin 2) = 0 := Fin.ext (by show r.val / 128 = 0; omega)
    have e1 : (⟨r.val % 128, by omega⟩ : Fin 128) = ⟨r.val, hc⟩ := Fin.ext (by show r.val % 128 = r.val; omega)
    show _ = tb.view.read (Elt F) ft (ix2 (rowNo (l.view.read (Elt F) fl (ix2 (⟨r.val / 128, _⟩ : Fin 2) (⟨r.val % 128, _⟩ : Fin 128)))) j)
    rw [e0, e1]
  · have hx : (ix2 r j : S256x128.Idx)
        = (Rect.unit (s := S256x128) ![128, 0] S128x128.size inb_S256x128_S128x128_128_0).emb (ix2 (⟨r.val - 128, by omega⟩ : Fin 128) j) :=
      funext fun a => Fin.ext (match a with
        | ⟨0, _⟩ => by show r.val = 128 + 1 * (r.val - 128); omega
        | ⟨1, _⟩ => by show j.val = 0 + 1 * j.val; omega)
    rw [hx]
    refine (View.read_slice_write_emb (v := dst.view) _ _ _ (Finset.mem_univ _)).trans ?_
    refine (payload_apply (F := F) _ _ _ _ _).trans ?_
    rw [read_tableOf, read_list1 l fl _ ⟨r.val - 128, by omega⟩ (congrArg Fin.val (Equiv.apply_symm_apply S128.rowMajor _)), ← hx]
    unfold picked
    have e0 : (⟨r.val / 128, by omega⟩ : Fin 2) = 1 := Fin.ext (by show r.val / 128 = 1; omega)
    have e1 : (⟨r.val % 128, by omega⟩ : Fin 128) = ⟨r.val - 128, by omega⟩ := Fin.ext (by show r.val % 128 = r.val - 128; omega)
    show _ = tb.view.read (Elt F) ft (ix2 (rowNo (l.view.read (Elt F) fl (ix2 (⟨r.val / 128, _⟩ : Fin 2) (⟨r.val % 128, _⟩ : Fin 128)))) j)
    rw [e0, e1]

end Cert.Rows

end
-- ==== Proof.TileSteps.lean ====
/-
  What a tile does, step by step: a copy started and waited for, and two gathers of 128 rows each started on one semaphore
  and then both waited for.
-/
module

public import proofs.«01_k».proof.Proof.GatherBatch
public import Idealize.ShloMosaic.Lib.SparseCore.Threads
public import Idealize.ShloMosaic.Lib.Writes
public import proofs.«01_k».proof.Proof.Picked
public import proofs.«01_k».proof.Proof.Gen.KernelIdeal.Skeleton

@[expose] public section

noncomputable section

namespace Cert.Rows

open Cert.KernelIdeal Cert.KernelIdeal.Gen
open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {Ix : Type} [DecidableEq Ix] {F : FTy → Type} {Name : Type} [DecidableEq Name] {U : Type} [URA U] {Lvl : Type} [Preorder Lvl]

/-- The thread of tile `b` of SparseCore `a`. -/
abbrev thr (d : Dev nD) (a : Fin τ.nSC) (b : Fin τ.nSub) : Thread nD τ := (d, Proc.scVector a b)

local notation "𝕄" => MT nD τ sig Ix (Elt F) Name U Lvl

variable {Λ : Labels} {defs : Defs nD τ sig (Elt F) Λ} (EC : UEmb Counters (MT nD τ sig Ix (Elt F) Name U Lvl)) (𝒱 : Variants)
variable (d : Dev nD) (a : Fin τ.nSC) (b : Fin τ.nSub)

variable (bd : Option 𝒱.V) {α : Type} {Q : α → sProp (MT nD τ sig Ix (Elt F) Name U Lvl)}

/-- A copy within a tile's reach, started and waited for: the destination holds what was read of the source. -/
theorem wp_copy [Infinite Name] [EC.LandsIn (upEmb : UEmb _ 𝕄)] {sp sp' : Space} {s : Shape} {e : EltTy}
    {src : Memref sig .scVector sp s e} {dst : Memref sig .scVector sp' s e} {sem : DmaSem sig}
    {hsrc : src.view.WordExact} {hdst : dst.view.WordExact} {hsem : DmaTarget.Typed (nD := nD) (p := Proc.scVector a b) sp (.dma sem) (.here dst)}
    {src' : Memref sig .scVector sp s e} {hsrc' : src'.view.WordExact} {hdst' : dst.view.WordExact}
    {kn : PUnit → Prog (TpuEff nD τ sig (Elt F) Λ (Proc.scVector a b)) α} {q : PosShare TreeShare}
    {fs : Buf (Elt F) (src.view.loc (thr d a b))} {fd : Buf (Elt F) (dst.view.loc (thr d a b))} (ι : Ix)
    (hs : 0 < s.numel) {O : CellTallies nD τ sig Ix} {W : Waits sig Ix} :
    iprop((src.view.loc (thr d a b) ↦[src.view.set]{q} fs) ∗ (dst.view.loc (thr d a b) ↦[dst.view.set]{fullShare} fd) ∗ semVal ((thr d a b), SemLoc.dma sem) 0
        ∗ owes (thr d a b) O W ∗ MayWaits (thr d a b) ι O)
      ⊢ iprop((iprop((src.view.loc (thr d a b) ↦[src.view.set]{q} fs)
              ∗ (dst.view.loc (thr d a b) ↦[dst.view.set]{fullShare} (dst.view.write (Elt F) fd (src.view.read (Elt F) fs) Finset.univ))
              ∗ semVal ((thr d a b), SemLoc.dma sem) 0 ∗ owes (thr d a b) O (insert (SemLoc.dma sem, ι) W))
            -∗ wp frame (wpE defs 𝒱 (thr d a b) bd) Set.univ (kn ⟨⟩) Q)
          -∗ wp frame (wpE defs 𝒱 (thr d a b) bd) Set.univ
              (.op (.enqueueDma (p := Proc.scVector a b) src (.here dst) (.dma sem) hsrc hdst hsem) fun _ =>
                .op (.waitDma2 (p := Proc.scVector a b) sem src' dst hsrc' hdst') kn) Q) := by
  iintro ⟨Hs, Hd, Hv, HO, HM⟩ Hk
  iapply (wp_dmaLocal EC 𝒱 (thr d a b) bd ι (dst.view.amount (.dma sem)) rfl (View.dmaCredit_pos _ hs) (Finset.Subset.refl _)) $$ [Hs Hd Hv]
  · isplitl [Hs]; · iexact Hs
    isplitl [Hd] <;> iassumption
  iintro HF
  ihave HMW := (MayWaits.elim (SemLoc.dma sem)) $$ HM
  iapply (wp_waitLocalO EC 𝒱 (thr d a b) bd ι rfl) $$ [HF HO HMW]
  · isplitl [HF]; · iexact HF
    isplitl [HO] <;> iassumption
  iintro ⟨⟨Hd, Hs⟩, Hv, HO⟩
  iapply Hk
  isplitl [Hs]; · iexact Hs
  isplitl [Hd]; · iexact Hd
  isplitl [Hv] <;> iassumption

/-! ## Two gathers of 128 rows on one semaphore -/

/-- The deliveries of two gathers, one after the other. -/
def both {A : Type} (P R : Fin 128 → A) (t : Fin 256) : A :=
  if h : t.val < 128 then P ⟨t.val, h⟩ else R ⟨t.val - 128, by omega⟩

theorem both_left {A : Type} (P R : Fin 128 → A) (j : Fin 128) (h : 0 + j.val < 256) : both P R ⟨0 + j.val, h⟩ = P j := by
  have hj : 0 + j.val < 128 := by omega
  unfold both
  rw [dif_pos hj]
  exact congrArg P (Fin.ext (Nat.zero_add _))

theorem both_right {A : Type} (P R : Fin 128 → A) (j : Fin 128) (h : 128 + j.val < 256) : both P R ⟨128 + j.val, h⟩ = R j := by
  have hj : ¬ 128 + j.val < 128 := by omega
  unfold both
  rw [dif_neg hj]
  exact congrArg R (Fin.ext (Nat.add_sub_cancel_left _ _))

instance both_storable (P R : Fin 128 → sProp 𝕄) [hP : ∀ j, Storable (upEmb : UEmb _ 𝕄) (P j)] [hR : ∀ j, Storable (upEmb : UEmb _ 𝕄) (R j)]
    (t : Fin 256) : Storable (upEmb : UEmb _ 𝕄) (both P R t) := by
  unfold both
  split
  · exact hP _
  · exact hR _

/-- All the deliveries of two gathers are those of the first and those of the second. -/
theorem both_all (P R : Fin 128 → sProp 𝕄) :
    bigSep Finset.univ (both P R) = iprop(bigSep Finset.univ P ∗ bigSep Finset.univ R) := by
  have h0 : (Finset.univ : Finset (Fin 256)) = pending 0 := pending_zero.symm
  have h256 : (pending 256 : Finset (Fin 256)) = ∅ := by
    refine Finset.filter_eq_empty_iff.mpr fun t _ => ?_
    have := t.isLt
    omega
  rw [h0, pending_take (n := 256) (o := 128) (both P R) 0 (by decide), pending_take (n := 256) (o := 128) (both P R) 128 (by decide), h256]
  have e0 : (fun j : Fin 128 => both P R ⟨0 + j.val, by omega⟩) = P := funext fun j => both_left P R j _
  have e1 : (fun j : Fin 128 => both P R ⟨128 + j.val, by omega⟩) = R := funext fun j => both_right P R j _
  rw [e0, e1, BI.bigSep_empty]
  exact congrArg (fun X => iprop(bigSep Finset.univ P ∗ X)) (BI.equiv_iff.mp BI.sep_emp)

/-- What is held of an array at one share, lent as two parts that may overlap, and returned. -/
theorem lend_two {ℓ : Loc nD τ sig} {S I J : Finset (Idx ℓ)} (hI : I ⊆ S) (hJ : J ⊆ S) (q : PosShare TreeShare) (f : Buf (Elt F) ℓ) :
    (ℓ ↦[S]{q} f : sProp 𝕄) ⊢ iprop((ℓ ↦[I]{pieceOf q 2 (by decide) 0} f) ∗ (ℓ ↦[J]{pieceOf q 2 (by decide) 1} f)
      ∗ (iprop((ℓ ↦[I]{pieceOf q 2 (by decide) 0} f) ∗ (ℓ ↦[J]{pieceOf q 2 (by decide) 1} f)) -∗ (ℓ ↦[S]{q} f))) := by
  have e : (ℓ ↦[S]{q} f : sProp 𝕄) = iprop((ℓ ↦[S]{pieceOf q 2 (by decide) 0} f) ∗ (ℓ ↦[S]{pieceOf q 2 (by decide) 1} f)) :=
    (pointsTo_piecesOf S f (by decide) q).trans (BI.bigSep_fin_two _)
  rw [e]
  iintro ⟨H0, H1⟩
  ihave H0 := (pointsTo_split_subset hI).1 $$ H0
  icases H0 with ⟨HI, H0⟩
  ihave H1 := (pointsTo_split_subset hJ).1 $$ H1
  icases H1 with ⟨HJ, H1⟩
  isplitl [HI]; · iexact HI
  isplitl [HJ]; · iexact HJ
  iintro ⟨HI, HJ⟩
  isplitl [HI H0]
  · iapply (pointsTo_split_subset hI).2
    isplitl [HI] <;> iassumption
  · iapply (pointsTo_split_subset hJ).2
    isplitl [HJ] <;> iassumption

/-- An array held whole, given up as two disjoint parts and taken back after both were written. -/
theorem lend_halves {sp : Space} {e : EltTy} (dst : Memref sig .scVector sp S256x128 e) (fd : Buf (Elt F) (dst.view.loc (thr d a b))) :
    (dst.view.loc (thr d a b) ↦[dst.view.set]{fullShare} fd : sProp 𝕄)
      ⊢ iprop(((topOf dst).view.loc (thr d a b) ↦[(topOf dst).view.set]{fullShare} fd) ∗ ((botOf dst).view.loc (thr d a b) ↦[(botOf dst).view.set]{fullShare} fd)
        ∗ (∀ P0 P1, iprop(((topOf dst).view.loc (thr d a b) ↦[(topOf dst).view.set]{fullShare} ((topOf dst).view.write (Elt F) fd P0 Finset.univ))
              ∗ ((botOf dst).view.loc (thr d a b) ↦[(botOf dst).view.set]{fullShare} ((botOf dst).view.write (Elt F) fd P1 Finset.univ)))
            -∗ (dst.view.loc (thr d a b) ↦[dst.view.set]{fullShare}
                ((botOf dst).view.write (Elt F) ((topOf dst).view.write (Elt F) fd P0 Finset.univ) P1 Finset.univ)))) := by
  have hT : (topOf dst).view.set ⊆ dst.view.set := View.set_slice_subset _ _
  have hdis : Disjoint (topOf dst).view.set (botOf dst).view.set := by
    have h0 : (topOf dst).view.set = _ := View.set_slice dst.view (Rect.unit (s := S256x128) ![0, 0] S128x128.size inb_S256x128_S128x128_0_0)
    have h1 : (botOf dst).view.set = _ := View.set_slice dst.view (Rect.unit (s := S256x128) ![128, 0] S128x128.size inb_S256x128_S128x128_128_0)
    rw [h0, h1, Finset.disjoint_map]
    exact Rect.unit_disjoint 0 (Or.inl (by decide))
  have hB : (botOf dst).view.set ⊆ dst.view.set \ (topOf dst).view.set := fun i hi =>
    Finset.mem_sdiff.mpr ⟨View.set_slice_subset _ _ hi, Finset.disjoint_right.mp hdis hi⟩
  iintro H
  ihave H := (pointsTo_split_subset hT).1 $$ H
  icases H with ⟨HT, H⟩
  ihave H := (pointsTo_split_subset hB).1 $$ H
  icases H with ⟨HB, H⟩
  isplitl [HT]; · iexact HT
  isplitl [HB]; · iexact HB
  iintro %P0 %P1 ⟨HT, HB⟩
  iapply (pointsTo_split_subset hT).2
  isplitl [HT]
  · iapply (Entails.of_eq (pointsTo_congr fun i hi => ?_)) $$ HT
    exact (View.write_of_not_mem _ _ _ (by rw [View.setOn_univ]; exact Finset.disjoint_left.mp hdis hi)).symm
  iapply (pointsTo_split_subset hB).2
  isplitl [HB]
  · iapply (Entails.of_eq (View.pointsTo_write_univ_congr (c := (thr d a b)) (botOf dst).view fullShare _ _ _)) $$ HB
  · iapply (Entails.of_eq (pointsTo_congr fun i hi => ?_)) $$ H
    have h1 := (Finset.mem_sdiff.mp hi).2
    have h2 := (Finset.mem_sdiff.mp (Finset.mem_sdiff.mp hi).1).2
    rw [View.write_of_not_mem _ _ _ (by rw [View.setOn_univ]; exact h1), View.write_of_not_mem _ _ _ (by rw [View.setOn_univ]; exact h2)]

/-- One row of 128 numbers, in bits; -/
theorem credit_row : RefSig.bitCredit (S128x128.rowShape gathers_S1000x128_S128x128.axis') .f32 = 4096 := by decide

/-- and 128 of them. -/
theorem credit_half : RefSig.bitCredit S128x128 .f32 = 128 * 4096 := by decide

/-- What row `j` of a gather of 128 rows hands back once it has landed. -/
def halfLanded {sp : Space} (tb : Memref sig .scVector sp S1000x128 .f32) (dst : Memref sig .scVector .vmem S128x128 .f32) (l : Memref sig .scVector .vmem S128 .i32)
    (q qo : PosShare TreeShare) (ft : Buf (Elt F) (tb.view.loc (thr d a b))) (fd : Buf (Elt F) (dst.view.loc (thr d a b))) (fl : Buf (Elt F) (l.view.loc (thr d a b)))
    (hin : ∀ x, (l.view.read (Elt F) fl x).toNat < S1000x128.size gathers_S1000x128_S128x128.axis) (j : Fin 128) : sProp 𝕄 :=
  landed (thr d a b) tb dst gathers_S1000x128_S128x128 l rfl (by decide) q qo ft fd fl hin j

instance halfLanded_storable {sp : Space} (tb : Memref sig .scVector sp S1000x128 .f32) (dst : Memref sig .scVector .vmem S128x128 .f32)
    (l : Memref sig .scVector .vmem S128 .i32) (q qo : PosShare TreeShare) (ft : Buf (Elt F) (tb.view.loc (thr d a b))) (fd : Buf (Elt F) (dst.view.loc (thr d a b)))
    (fl : Buf (Elt F) (l.view.loc (thr d a b))) (hin : ∀ x, (l.view.read (Elt F) fl x).toNat < S1000x128.size gathers_S1000x128_S128x128.axis) (j : Fin 128) :
    Storable (upEmb : UEmb _ 𝕄) (halfLanded (Ix := Ix) (Name := Name) (U := U) (Lvl := Lvl) d a b tb dst l q qo ft fd fl hin j) :=
  landed_storable (thr d a b) tb dst gathers_S1000x128_S128x128 l rfl (by decide) q qo ft fd fl hin j

/-- Starting a gather of 128 rows, of a batch of 256 whose first `k` are started. -/
theorem wp_gatherHalf [Infinite Name] [EC.LandsIn (upEmb : UEmb _ 𝕄)]
    (tb : Memref sig .scVector .hbm S1000x128 .f32) (dst : Memref sig .scVector .vmem S128x128 .f32) (l : Memref sig .scVector .vmem S128 .i32)
    {sem : DmaSem sig} {hp : Proc.kind (τ := τ) (Proc.scVector a b) = .scVector} {he : EltTy.bits .f32 = 32}
    {hsp : Space.hbm = .hbm ∨ Space.hbm = .shared} {hr : S1000x128.StreamRows 0} {wt : tb.view.WordExact}
    {kn : PUnit → Prog (TpuEff nD τ sig (Elt F) Λ (Proc.scVector a b)) α} {q qo : PosShare TreeShare}
    {ft : Buf (Elt F) (tb.view.loc (thr d a b))} {fd : Buf (Elt F) (dst.view.loc (thr d a b))} {fl : Buf (Elt F) (l.view.loc (thr d a b))} (ι : Ix)
    (hin : ∀ x, (l.view.read (Elt F) fl x).toNat < S1000x128.size gathers_S1000x128_S128x128.axis) (k : ℕ) {B : Fin 256 → sProp 𝕄}
    (hk : k + 128 ≤ 256)
    (hB : ∀ j : Fin 128, B ⟨k + j.val, by omega⟩ = halfLanded d a b tb dst l q qo ft fd fl hin j) :
    iprop((tb.view.loc (thr d a b) ↦[tb.view.set]{q} ft) ∗ (dst.view.loc (thr d a b) ↦[dst.view.set]{fullShare} fd)
        ∗ (l.view.loc (thr d a b) ↦[l.view.set]{qo} fl) ∗ Batch EC (thr d a b) (.dma sem) ι 4096 B k 0)
      ⊢ iprop((Batch EC (thr d a b) (.dma sem) ι 4096 B (k + 128) 0 -∗ wp frame (wpE defs 𝒱 (thr d a b) bd) Set.univ (kn ⟨⟩) Q)
          -∗ wp frame (wpE defs 𝒱 (thr d a b) bd) Set.univ
              (enqueueIndirectGather (p := Proc.scVector a b) hp tb dst gathers_S1000x128_S128x128 l rfl sem wt he hsp hr >>= kn) Q) :=
  wp_gatherBatch (hs := by decide) (hin := hin) (thr d a b) EC 𝒱 bd ι (n := 256) (N := 4096) (k := k) (u := 0) (B := B)
    (fun j => (credit_row : (dst.slice (S128x128.rowRect gathers_S1000x128_S128x128.axis' j) (S128x128.stride_rowRect gathers_S1000x128_S128x128.axis' j)).view.dmaCredit = _))
    hk (Nat.zero_le _) (fun j => Entails.of_eq (hB j).symm)

/-- All the rows of a gather of 128 rows together. -/
theorem halfLanded_all {sp : Space} (tb : Memref sig .scVector sp S1000x128 .f32) (dst : Memref sig .scVector .vmem S128x128 .f32) (l : Memref sig .scVector .vmem S128 .i32)
    (q qo : PosShare TreeShare) (ft : Buf (Elt F) (tb.view.loc (thr d a b))) (fd : Buf (Elt F) (dst.view.loc (thr d a b))) (fl : Buf (Elt F) (l.view.loc (thr d a b)))
    (hin : ∀ x, (l.view.read (Elt F) fl x).toNat < S1000x128.size gathers_S1000x128_S128x128.axis) :
    bigSep Finset.univ (halfLanded (Ix := Ix) (Name := Name) (U := U) (Lvl := Lvl) d a b tb dst l q qo ft fd fl hin)
      ⊢ iprop((dst.view.loc (thr d a b) ↦[dst.view.set]{fullShare}
              (dst.view.write (Elt F) fd (gatherPayload gathers_S1000x128_S128x128 (tb.view.read (Elt F) ft) (rows (l.view.read (Elt F) fl) rfl hin)) Finset.univ))
          ∗ (l.view.loc (thr d a b) ↦[l.view.set]{qo} fl) ∗ (tb.view.loc (thr d a b) ↦[tb.view.set]{q} ft)) :=
  landed_all (thr d a b) (src := tb) (dst := dst) (hg := gathers_S1000x128_S128x128) (offs := l) (hn := rfl) (hs := by decide)
    (q := q) (qo := qo) (fs := ft) (fd := fd) (fo := fl) (hin := hin)

/-- Two gathers of 128 rows, started on one semaphore and then both waited for: the array holds the rows the list names. -/
theorem wp_gatherPair [Infinite Name] [EC.LandsIn (upEmb : UEmb _ 𝕄)]
    (tb : Memref sig .scVector .hbm S1000x128 .f32) (dst : Memref sig .scVector .vmem S256x128 .f32) (l : Memref sig .scVector .vmem S2x128 .i32)
    {sem : DmaSem sig} {hp : Proc.kind (τ := τ) (Proc.scVector a b) = .scVector} {w0 w1 : (tableOf tb).view.WordExact} {he : EltTy.bits .f32 = 32}
    {hsp : Space.hbm = .hbm ∨ Space.hbm = .shared} {hr : S1000x128.StreamRows 0}
    {w2 : (topOf dst).view.WordExact} {w4 : (botOf dst).view.WordExact}
    {wt : (tableOf tb).view.WordExact} {wt' : (tableOf tb).view.WordExact}
    {kn : PUnit → Prog (TpuEff nD τ sig (Elt F) Λ (Proc.scVector a b)) α} {q : PosShare TreeShare}
    {ft : Buf (Elt F) (tb.view.loc (thr d a b))} {fd : Buf (Elt F) (dst.view.loc (thr d a b))} {fl : Buf (Elt F) (l.view.loc (thr d a b))} (ι : Ix)
    (hin : ∀ x, (l.view.read (Elt F) fl x).toNat < 1000) {O : CellTallies nD τ sig Ix} {W : Waits sig Ix} :
    iprop((tb.view.loc (thr d a b) ↦[tb.view.set]{q} ft) ∗ (dst.view.loc (thr d a b) ↦[dst.view.set]{fullShare} fd)
        ∗ (l.view.loc (thr d a b) ↦[l.view.set]{fullShare} fl) ∗ semVal ((thr d a b), SemLoc.dma sem) 0 ∗ owes (thr d a b) O W ∗ MayWaits (thr d a b) ι O)
      ⊢ iprop((iprop((tb.view.loc (thr d a b) ↦[tb.view.set]{q} ft)
              ∗ (∃ G : Buf (Elt F) (dst.view.loc (thr d a b)), ⌜dst.view.read (Elt F) G = picked (l.view.read (Elt F) fl) (tb.view.read (Elt F) ft)⌝
                  ∗ (dst.view.loc (thr d a b) ↦[dst.view.set]{fullShare} G))
              ∗ (l.view.loc (thr d a b) ↦[l.view.set]{fullShare} fl) ∗ semVal ((thr d a b), SemLoc.dma sem) 0
              ∗ (∃ W', ⌜∀ p ∈ W', p ∈ W ∨ p = (SemLoc.dma sem, ι)⌝ ∗ owes (thr d a b) O W'))
            -∗ wp frame (wpE defs 𝒱 (thr d a b) bd) Set.univ (kn ⟨⟩) Q)
          -∗ wp frame (wpE defs 𝒱 (thr d a b) bd) Set.univ
              (enqueueIndirectGather (p := Proc.scVector a b) hp (tableOf tb) (topOf dst) gathers_S1000x128_S128x128 (list0 l) rfl sem wt he hsp hr >>= fun _ =>
                enqueueIndirectGather (p := Proc.scVector a b) hp (tableOf tb) (botOf dst) gathers_S1000x128_S128x128 (list1 l) rfl sem wt' he hsp hr >>= fun _ =>
                .op (.waitDma2 (p := Proc.scVector a b) sem (tableOf tb) (topOf dst) w0 w2) fun _ =>
                .op (.waitDma2 (p := Proc.scVector a b) sem (tableOf tb) (botOf dst) w1 w4) kn) Q) := by
  have hT : (tableOf tb).view.set ⊆ tb.view.set := View.set_slice_subset _ _
  have hl0 : (list0 l).view.set ⊆ l.view.set := (View.set_reshape _ _).trans_subset (View.set_slice_subset _ _)
  have hl1 : (list1 l).view.set ⊆ l.view.set := (View.set_reshape _ _).trans_subset (View.set_slice_subset _ _)
  have h128 : 0 + 128 ≤ 256 := by decide
  have h256 : 128 + 128 ≤ 256 := by decide
  have hc0 : (topOf dst).view.dmaCredit = 128 * 4096 := credit_half
  have hc1 : (botOf dst).view.dmaCredit = 128 * 4096 := credit_half
  have hw0 : 0 + 128 * 4096 ≤ 4096 * (128 + 128) := by decide
  have hw1 : 0 + 128 * 4096 + 128 * 4096 = 4096 * 256 := by decide
  iintro ⟨Ht, Hd, Hl, Hv, HO, #HM⟩ Hk
  ihave Ht := (lend_two (ℓ := tb.view.loc (thr d a b)) hT hT q ft) $$ Ht
  icases Ht with ⟨Ht0, Ht1, Htk⟩
  ihave Hl := (lend_two (ℓ := l.view.loc (thr d a b)) hl0 hl1 fullShare fl) $$ Hl
  icases Hl with ⟨Hl0, Hl1, Hlk⟩
  ihave Hd := (lend_halves d a b dst fd) $$ Hd
  icases Hd with ⟨Hd0, Hd1, Hdk⟩
  let A0 : Fin 128 → sProp 𝕄 := halfLanded d a b (tableOf tb) (topOf dst) (list0 l)
    (pieceOf q 2 (by decide) 0) (pieceOf fullShare 2 (by decide) 0) ft fd fl (list0_lt l fl hin)
  let A1 : Fin 128 → sProp 𝕄 := halfLanded d a b (tableOf tb) (botOf dst) (list1 l)
    (pieceOf q 2 (by decide) 1) (pieceOf fullShare 2 (by decide) 1) ft fd fl (list1_lt l fl hin)
  haveI : ∀ j, Storable (upEmb : UEmb _ 𝕄) (A0 j) := fun j => halfLanded_storable _ _ _ _ _ _ _ _ _ _ _ _ j
  haveI : ∀ j, Storable (upEmb : UEmb _ 𝕄) (A1 j) := fun j => halfLanded_storable _ _ _ _ _ _ _ _ _ _ _ _ j
  imod (batch_alloc' EC (thr d a b) ι 4096 (both A0 A1) (E := Set.univ)) $$ Hv with HB
  iapply (wp_gatherHalf EC 𝒱 d a b bd (tableOf tb) (topOf dst) (list0 l) ι (list0_lt l fl hin) 0 h128 (both_left A0 A1 · _)) $$ [Ht0 Hd0 Hl0 HB]
  · isplitl [Ht0]; · iexact Ht0
    isplitl [Hd0]; · iexact Hd0
    isplitl [Hl0] <;> iassumption
  iintro HB
  iapply (wp_gatherHalf EC 𝒱 d a b bd (tableOf tb) (botOf dst) (list1 l) ι (list1_lt l fl hin) 128 h256 (both_right A0 A1 · _)) $$ [Ht1 Hd1 Hl1 HB]
  · isplitl [Ht1]; · iexact Ht1
    isplitl [Hd1]; · iexact Hd1
    isplitl [Hl1] <;> iassumption
  iintro HB
  ihave HMW := (MayWaits.elim (SemLoc.dma sem)) $$ HM
  iapply (wp_waitBatchMulO EC 𝒱 (thr d a b) bd ι 128 (N := 4096) (dstw := topOf dst) hc0 hw0) $$ [HB HO HMW]
  · isplitl [HB]; · iexact HB
    isplitl [HO] <;> iassumption
  iintro ⟨HB, HO⟩
  ihave HMW := (MayWaits.elim (SemLoc.dma sem)) $$ HM
  iapply (wp_waitBatchAllO EC 𝒱 (thr d a b) bd ι (N := 4096) (J := 128 * 4096) (dstw := botOf dst) hc1 (Nat.succ_pos _) hw1) $$ [HB HO HMW]
  · isplitl [HB]; · iexact HB
    isplitl [HO] <;> iassumption
  iintro ⟨HD, Hv, HO⟩
  ihave HD := (Entails.of_eq (both_all A0 A1)) $$ HD
  icases HD with ⟨H0, H1⟩
  ihave H0 := (halfLanded_all d a b (tableOf tb) (topOf dst) (list0 l) _ _ ft fd fl (list0_lt l fl hin)) $$ H0
  icases H0 with ⟨Hd0, Hl0, Ht0⟩
  ihave H1 := (halfLanded_all d a b (tableOf tb) (botOf dst) (list1 l) _ _ ft fd fl (list1_lt l fl hin)) $$ H1
  icases H1 with ⟨Hd1, Hl1, Ht1⟩
  iapply Hk
  isplitl [Htk Ht0 Ht1]
  · iapply Htk
    isplitl [Ht0] <;> iassumption
  isplitl [Hdk Hd0 Hd1]
  · iexists _
    isplitr [Hdk Hd0 Hd1]
    · ipureintro
      exact read_picked (F := F) tb dst l ft fd fl hin
    · iapply Hdk
      isplitl [Hd0] <;> iassumption
  isplitl [Hlk Hl0 Hl1]
  · iapply Hlk
    isplitl [Hl0] <;> iassumption
  isplitl [Hv]; · iexact Hv
  iexists _
  isplitr [HO]
  · ipureintro
    intro p hp
    rcases Finset.mem_insert.mp hp with h | h
    · exact Or.inr h
    · rcases Finset.mem_insert.mp h with h | h
      · exact Or.inr h
      · exact Or.inl h
  · iexact HO

end Cert.Rows

end
-- ==== Proof.Tile.lean ====
/-
  One tile's run: it fetches its two lists of 256 row numbers, gathers the rows they name out of the two tables, and copies
  them to its 256 rows of the two results.
-/
module

public import proofs.«01_k».proof.Proof.TileSteps

@[expose] public section

noncomputable section

namespace Cert.Rows

open Cert.KernelIdeal Cert.KernelIdeal.Gen
open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

/-! ## The values -/

/-- Row `r` of a result is the table's row named by entry `r` of the [32, 2, 128] array of row numbers. -/
def gathered {α : Type} (ix : S32x2x128.Idx → BitVec 32) (tb : S1000x128.Idx → α) : S8192x128.Idx → α := fun y =>
  have h0 : (y 0).val < 8192 := (y 0).isLt
  tb (ix2 (rowNo (ix (ix3 (⟨(y 0).val / 256, by omega⟩ : Fin 32) (⟨(y 0).val % 256 / 128, by omega⟩ : Fin 2)
    (⟨(y 0).val % 128, by omega⟩ : Fin 128)))) (y 1))

/-- The tile's number, `2 * subcore + core`. -/
def tileNo (i : grid0.Coords) : Fin 32 :=
  ⟨2 * (i 1).val + (i 0).val, by have h1 : (i 1).val < 16 := (i 1).isLt; have h0 : (i 0).val < 2 := (i 0).isLt; omega⟩

/-- A tile's two rows of an array of row numbers. -/
abbrev listOf {κ : Kind} {sp : Space} (m : Memref sig κ sp S32x2x128 .i32) (i : grid0.Coords) : Memref sig κ sp S2x128 .i32 :=
  (m.slice (Rect.unit (s := S32x2x128) (k0_off1 i) S1x2x128.size (k0_off1_inb i)) (fun _ => rfl)).squeeze S2x128 squeezes_S1x2x128_S2x128

/-- A tile's 256 rows of a result. -/
abbrev rowsOf {κ : Kind} {sp : Space} (m : Memref sig κ sp S8192x128 .f32) (i : grid0.Coords) : Memref sig κ sp S256x128 .f32 :=
  m.slice (Rect.unit (s := S8192x128) (k0_off2 i) S256x128.size (k0_off2_inb i)) (fun _ => rfl)

/-- A tile's list, read entry by entry. -/
theorem read_listOf {F : FTy → Type} {κ : Kind} {sp : Space} (m : Memref sig κ sp S32x2x128 .i32) (i : grid0.Coords) (f : m.view.ty.Contents (Elt F))
    (u : Fin 2) (k : Fin 128) : (listOf m i).view.read (Elt F) f (ix2 u k) = m.view.read (Elt F) f (ix3 (tileNo i) u k) := by
  have e : Shape.reshapeEquiv (squeezes_S1x2x128_S2x128).numel_eq (ix2 u k : S2x128.Idx) = ix3 (0 : Fin 1) u k :=
    Shape.reshapeEquiv_eq_of_rowMajor _ (by
      rw [Shape.rowMajor_val_two, Shape.rowMajor_val_three]
      show (0 * 2 + u.val) * 128 + k.val = u.val * 128 + k.val
      omega)
  have e' : (listOf m i).view.emb (ix2 u k) = m.view.emb (ix3 (tileNo i) u k) := by
    show m.view.emb ((Rect.unit (s := S32x2x128) (k0_off1 i) S1x2x128.size (k0_off1_inb i)).emb
      (Shape.reshapeEquiv (squeezes_S1x2x128_S2x128).numel_eq (ix2 u k : S2x128.Idx))) = _
    rw [e]
    refine congrArg m.view.emb (funext fun a => Fin.ext ?_)
    show k0_off1 i a + 1 * (ix3 (0 : Fin 1) u k a).val = (ix3 (tileNo i) u k a).val
    rw [k0_off1_eq]
    match a with
    | ⟨0, _⟩ => show 2 * (i 1).val + (i 0).val + 1 * 0 = 2 * (i 1).val + (i 0).val; omega
    | ⟨1, _⟩ => show 0 + 1 * u.val = u.val; omega
    | ⟨2, _⟩ => show 0 + 1 * k.val = k.val; omega
  rw [View.read_apply, View.read_apply, e']

/-- The rows a tile picks are its rows of the whole. -/
theorem picked_eq {α : Type} (ix : S32x2x128.Idx → BitVec 32) (tb : S1000x128.Idx → α) (i : grid0.Coords) (l : S2x128.Idx → BitVec 32)
    (hl : ∀ u k, l (ix2 u k) = ix (ix3 (tileNo i) u k)) (x : S256x128.Idx) :
    picked l tb x = gathered ix tb ((Rect.unit (s := S8192x128) (k0_off2 i) S256x128.size (k0_off2_inb i)).emb x) := by
  have h0 : (x 0).val < 256 := (x 0).isLt
  have hw := (tileNo i).isLt
  have hv : (tileNo i).val = 2 * (i 1).val + (i 0).val := rfl
  have ha : ∀ a, ((Rect.unit (s := S8192x128) (k0_off2 i) S256x128.size (k0_off2_inb i)).emb x a).val
      = (![256 * (tileNo i).val, 0] : Fin 2 → ℕ) a + (x a).val := fun a => by
    show k0_off2 i a + 1 * (x a).val = _
    rw [k0_off2_eq, Nat.one_mul]
    match a with
    | ⟨0, _⟩ => show 512 * (i 1).val + 256 * (i 0).val + (x 0).val = 256 * (tileNo i).val + (x 0).val; omega
    | ⟨1, _⟩ => rfl
  have e0 : ((Rect.unit (s := S8192x128) (k0_off2 i) S256x128.size (k0_off2_inb i)).emb x 0).val = 256 * (tileNo i).val + (x 0).val := ha 0
  have e1 : (Rect.unit (s := S8192x128) (k0_off2 i) S256x128.size (k0_off2_inb i)).emb x 1 = x 1 := Fin.ext ((ha 1).trans (Nat.zero_add _))
  have q0 : (tileNo i) = (⟨((Rect.unit (s := S8192x128) (k0_off2 i) S256x128.size (k0_off2_inb i)).emb x 0).val / 256, by omega⟩ : Fin 32) :=
    Fin.ext (by show (tileNo i).val = _ / 256; rw [e0]; omega)
  have q1 : (⟨(x 0).val / 128, by omega⟩ : Fin 2)
      = ⟨((Rect.unit (s := S8192x128) (k0_off2 i) S256x128.size (k0_off2_inb i)).emb x 0).val % 256 / 128, by omega⟩ :=
    Fin.ext (by show (x 0).val / 128 = _ % 256 / 128; rw [e0]; omega)
  have q2 : (⟨(x 0).val % 128, by omega⟩ : Fin 128)
      = ⟨((Rect.unit (s := S8192x128) (k0_off2 i) S256x128.size (k0_off2_inb i)).emb x 0).val % 128, by omega⟩ :=
    Fin.ext (by show (x 0).val % 128 = _ % 128; rw [e0]; omega)
  exact congrArg tb (congrArg₂ ix2 (congrArg rowNo ((hl _ _).trans (congrArg ix (congr (congr (congrArg ix3 q0) q1) q2)))) e1.symm)

/-! ## The run -/

section Run

variable {Ix : Type} [DecidableEq Ix] {F : FTy → Type} {Name : Type} [DecidableEq Name] {U : Type} [URA U] {Lvl : Type} [Preorder Lvl]

local notation "𝕄" => MT nD τ sig Ix (Elt F) Name U Lvl

variable [FloatOps F] [Named F] {defs : Defs nD τ sig (Elt F) Λ₀} (EC : UEmb Counters (MT nD τ sig Ix (Elt F) Name U Lvl)) (𝒱 : Variants)
variable (d : Dev nD) (i : grid0.Coords) (bd : Option 𝒱.V)

/-- A list that was just copied holds the entries of its source. -/
theorem read_fetched (m : Memref sig .scVector .hbm S32x2x128 .i32) (v : Memref sig .scVector .vmem S2x128 .i32)
    (f : Buf (Elt F) (m.view.loc (thr d ((i 0).castLE hcore0) ((i 1).castLE hsub0)))) (g : Buf (Elt F) (v.view.loc (thr d ((i 0).castLE hcore0) ((i 1).castLE hsub0)))) :
    v.view.read (Elt F) (v.view.write (Elt F) g ((listOf m i).view.read (Elt F) f) Finset.univ)
      = (listOf m i).view.read (Elt F) f := View.read_write_univ _ _

/-- Every word of a tile's list is a word of the whole array. -/
theorem listOf_lt (m : Memref sig .scVector .hbm S32x2x128 .i32) (f : m.view.ty.Contents (Elt F))
    (h : ∀ x, (m.view.read (Elt F) f x).toNat < 1000) (x : S2x128.Idx) : ((listOf m i).view.read (Elt F) f x).toNat < 1000 := by
  obtain ⟨u, k, rfl⟩ : ∃ (u : Fin 2) (k : Fin 128), x = ix2 u k := ⟨x 0, x 1, eq_ix2 x⟩
  rw [read_listOf]; exact h _

/-- A tile's rows of a result after the copy, whatever the result held. -/
theorem rows_written (m : Memref sig .scVector .hbm S8192x128 .f32) (g G : Buf (Elt F) (m.view.loc (thr d ((i 0).castLE hcore0) ((i 1).castLE hsub0))))
    (w : S256x128.Idx → Elt F .f32) (hw : ∀ x, w x = m.view.read (Elt F) G ((Rect.unit (s := S8192x128) (k0_off2 i) S256x128.size (k0_off2_inb i)).emb x)) :
    ((rowsOf m i).view.loc (thr d ((i 0).castLE hcore0) ((i 1).castLE hsub0)) ↦[(rowsOf m i).view.set]{fullShare} ((rowsOf m i).view.write (Elt F) g w Finset.univ) : sProp 𝕄)
      = ((rowsOf m i).view.loc (thr d ((i 0).castLE hcore0) ((i 1).castLE hsub0)) ↦[(rowsOf m i).view.set]{fullShare} G) := by
  refine pointsTo_congr fun j hj => ?_
  obtain ⟨x, -, rfl⟩ := Finset.mem_map.mp hj
  rw [View.write_emb_of_mem _ _ (Finset.mem_univ _), hw, View.read_apply, cast_cast, cast_eq]
  rfl

variable {Q : PUnit → sProp (MT nD τ sig Ix (Elt F) Name U Lvl)}

/-- The tile's run. It returns its shares of the arrays of row numbers and of the tables, its scratch and its semaphores,
    and its 256 rows of each result hold the rows its row numbers name. -/
theorem wp_tile [Infinite Name] [EC.LandsIn (upEmb : UEmb _ 𝕄)]
    (arg2 : Memref sig .scVector .hbm S32x2x128 .i32) (harg2 : arg2.IsWhole) (arg3 : Memref sig .scVector .hbm S32x2x128 .i32) (harg3 : arg3.IsWhole)
    (arg4 : Memref sig .scVector .hbm S1000x128 .f32) (harg4 : arg4.IsWhole) (arg5 : Memref sig .scVector .hbm S1000x128 .f32) (harg5 : arg5.IsWhole)
    (arg6 : Memref sig .scVector .hbm S8192x128 .f32) (harg6 : arg6.IsWhole) (arg7 : Memref sig .scVector .hbm S8192x128 .f32) (harg7 : arg7.IsWhole)
    (arg8 : Memref sig .scVector .vmem S2x128 .i32) (harg8 : arg8.IsWhole) (arg9 : Memref sig .scVector .vmem S2x128 .i32) (harg9 : arg9.IsWhole)
    (arg10 : Memref sig .scVector .vmem S256x128 .f32) (harg10 : arg10.IsWhole)
    (arg11 r0 r1 r2 r3 : DmaSems sig S_) (ι : Ix) {O : CellTallies nD τ sig Ix} {W : Waits sig Ix}
    {q2 q3 q4 q5 : PosShare TreeShare} {f2 : Buf (Elt F) (arg2.view.loc (thr d ((i 0).castLE hcore0) ((i 1).castLE hsub0)))} {f3 : Buf (Elt F) (arg3.view.loc (thr d ((i 0).castLE hcore0) ((i 1).castLE hsub0)))}
    {f4 : Buf (Elt F) (arg4.view.loc (thr d ((i 0).castLE hcore0) ((i 1).castLE hsub0)))} {f5 : Buf (Elt F) (arg5.view.loc (thr d ((i 0).castLE hcore0) ((i 1).castLE hsub0)))} {f6 G6 : Buf (Elt F) (arg6.view.loc (thr d ((i 0).castLE hcore0) ((i 1).castLE hsub0)))}
    {f7 G7 : Buf (Elt F) (arg7.view.loc (thr d ((i 0).castLE hcore0) ((i 1).castLE hsub0)))} {f8 : Buf (Elt F) (arg8.view.loc (thr d ((i 0).castLE hcore0) ((i 1).castLE hsub0)))} {f9 : Buf (Elt F) (arg9.view.loc (thr d ((i 0).castLE hcore0) ((i 1).castLE hsub0)))}
    {f10 : Buf (Elt F) (arg10.view.loc (thr d ((i 0).castLE hcore0) ((i 1).castLE hsub0)))}
    (h2 : ∀ x, (arg2.view.read (Elt F) f2 x).toNat < 1000) (h3 : ∀ x, (arg3.view.read (Elt F) f3 x).toNat < 1000)
    (hG6 : arg6.view.read (Elt F) G6 = gathered (arg2.view.read (Elt F) f2) (arg4.view.read (Elt F) f4))
    (hG7 : arg7.view.read (Elt F) G7 = gathered (arg3.view.read (Elt F) f3) (arg5.view.read (Elt F) f5)) :
    iprop((arg2.view.loc (thr d ((i 0).castLE hcore0) ((i 1).castLE hsub0)) ↦[arg2.view.set]{q2} f2) ∗ (arg3.view.loc (thr d ((i 0).castLE hcore0) ((i 1).castLE hsub0)) ↦[arg3.view.set]{q3} f3)
        ∗ (arg4.view.loc (thr d ((i 0).castLE hcore0) ((i 1).castLE hsub0)) ↦[arg4.view.set]{q4} f4) ∗ (arg5.view.loc (thr d ((i 0).castLE hcore0) ((i 1).castLE hsub0)) ↦[arg5.view.set]{q5} f5)
        ∗ (arg6.view.loc (thr d ((i 0).castLE hcore0) ((i 1).castLE hsub0)) ↦[(rowsOf arg6 i).view.set]{fullShare} f6) ∗ (arg7.view.loc (thr d ((i 0).castLE hcore0) ((i 1).castLE hsub0)) ↦[(rowsOf arg7 i).view.set]{fullShare} f7)
        ∗ (arg8.view.loc (thr d ((i 0).castLE hcore0) ((i 1).castLE hsub0)) ↦[arg8.view.set]{fullShare} f8) ∗ (arg9.view.loc (thr d ((i 0).castLE hcore0) ((i 1).castLE hsub0)) ↦[arg9.view.set]{fullShare} f9)
        ∗ (arg10.view.loc (thr d ((i 0).castLE hcore0) ((i 1).castLE hsub0)) ↦[arg10.view.set]{fullShare} f10)
        ∗ semVal ((thr d ((i 0).castLE hcore0) ((i 1).castLE hsub0)), SemLoc.dma arg11.sem) 0 ∗ semVal ((thr d ((i 0).castLE hcore0) ((i 1).castLE hsub0)), SemLoc.dma r0.sem) 0 ∗ semVal ((thr d ((i 0).castLE hcore0) ((i 1).castLE hsub0)), SemLoc.dma r1.sem) 0
        ∗ semVal ((thr d ((i 0).castLE hcore0) ((i 1).castLE hsub0)), SemLoc.dma r2.sem) 0 ∗ semVal ((thr d ((i 0).castLE hcore0) ((i 1).castLE hsub0)), SemLoc.dma r3.sem) 0 ∗ owes (thr d ((i 0).castLE hcore0) ((i 1).castLE hsub0)) O W ∗ MayWaits (thr d ((i 0).castLE hcore0) ((i 1).castLE hsub0)) ι O)
      ⊢ iprop((iprop((arg2.view.loc (thr d ((i 0).castLE hcore0) ((i 1).castLE hsub0)) ↦[arg2.view.set]{q2} f2) ∗ (arg3.view.loc (thr d ((i 0).castLE hcore0) ((i 1).castLE hsub0)) ↦[arg3.view.set]{q3} f3)
              ∗ (arg4.view.loc (thr d ((i 0).castLE hcore0) ((i 1).castLE hsub0)) ↦[arg4.view.set]{q4} f4) ∗ (arg5.view.loc (thr d ((i 0).castLE hcore0) ((i 1).castLE hsub0)) ↦[arg5.view.set]{q5} f5)
              ∗ (arg6.view.loc (thr d ((i 0).castLE hcore0) ((i 1).castLE hsub0)) ↦[(rowsOf arg6 i).view.set]{fullShare} G6) ∗ (arg7.view.loc (thr d ((i 0).castLE hcore0) ((i 1).castLE hsub0)) ↦[(rowsOf arg7 i).view.set]{fullShare} G7)
              ∗ (∃ g8, arg8.view.loc (thr d ((i 0).castLE hcore0) ((i 1).castLE hsub0)) ↦[arg8.view.set]{fullShare} g8) ∗ (∃ g9, arg9.view.loc (thr d ((i 0).castLE hcore0) ((i 1).castLE hsub0)) ↦[arg9.view.set]{fullShare} g9)
              ∗ (∃ g10, arg10.view.loc (thr d ((i 0).castLE hcore0) ((i 1).castLE hsub0)) ↦[arg10.view.set]{fullShare} g10)
              ∗ semVal ((thr d ((i 0).castLE hcore0) ((i 1).castLE hsub0)), SemLoc.dma arg11.sem) 0 ∗ semVal ((thr d ((i 0).castLE hcore0) ((i 1).castLE hsub0)), SemLoc.dma r0.sem) 0 ∗ semVal ((thr d ((i 0).castLE hcore0) ((i 1).castLE hsub0)), SemLoc.dma r1.sem) 0
              ∗ semVal ((thr d ((i 0).castLE hcore0) ((i 1).castLE hsub0)), SemLoc.dma r2.sem) 0 ∗ semVal ((thr d ((i 0).castLE hcore0) ((i 1).castLE hsub0)), SemLoc.dma r3.sem) 0
              ∗ (∃ W', ⌜∀ p ∈ W', p ∈ W ∨ p.2 = ι⌝ ∗ owes (thr d ((i 0).castLE hcore0) ((i 1).castLE hsub0)) O W')) -∗ Q ⟨⟩)
          -∗ wp frame (wpE defs 𝒱 (thr d ((i 0).castLE hcore0) ((i 1).castLE hsub0)) bd) Set.univ
              (cc0_k (F := F) i arg2 harg2 arg3 harg3 arg4 harg4 arg5 harg5 arg6 harg6 arg7 harg7 arg8 harg8 arg9 harg9 arg10 harg10 arg11 r0 r1 r2 r3) Q) := by
  have hs2 : (listOf arg2 i).view.set ⊆ arg2.view.set := (View.set_reshape _ _).trans_subset (View.set_slice_subset _ _)
  have hs3 : (listOf arg3 i).view.set ⊆ arg3.view.set := (View.set_reshape _ _).trans_subset (View.set_slice_subset _ _)
  have hpos2 : 0 < S2x128.numel := by decide
  have hpos10 : 0 < S256x128.numel := by decide
  have hin8 : ∀ x, (arg8.view.read (Elt F) (arg8.view.write (Elt F) f8 ((listOf arg2 i).view.read (Elt F) f2) Finset.univ) x).toNat < 1000 := by
    rw [read_fetched d i]; exact listOf_lt i arg2 f2 h2
  have hin9 : ∀ x, (arg9.view.read (Elt F) (arg9.view.write (Elt F) f9 ((listOf arg3 i).view.read (Elt F) f3) Finset.univ) x).toNat < 1000 := by
    rw [read_fetched d i]; exact listOf_lt i arg3 f3 h3
  rw [cc0_k_eq_skeleton]
  unfold cc0_k_skel
  rw [k0_part1_eq_skeleton, k0_part2_eq_skeleton]
  unfold k0_part1_skel k0_part2_skel
  iintro ⟨H2, H3, H4, H5, H6, H7, H8, H9, H10, Hv, Hv0, Hv1, Hv2, Hv3, HO, #HM⟩ Hk
  -- the first list
  ihave H2 := (pointsTo_split_subset hs2).1 $$ H2
  icases H2 with ⟨H2, H2r⟩
  iapply (wp_copy EC 𝒱 d _ _ bd (src := listOf arg2 i) (dst := arg8) (sem := r0.sem) ι hpos2) $$ [H2 H8 Hv0 HO]
  · isplitl [H2]; · iexact H2
    isplitl [H8]; · iexact H8
    isplitl [Hv0]; · iexact Hv0
    isplitl [HO]; · iexact HO
    iexact HM
  iintro ⟨H2, H8, Hv0, HO⟩
  -- the second list
  ihave H3 := (pointsTo_split_subset hs3).1 $$ H3
  icases H3 with ⟨H3, H3r⟩
  iapply (wp_copy EC 𝒱 d _ _ bd (src := listOf arg3 i) (dst := arg9) (sem := r1.sem) ι hpos2) $$ [H3 H9 Hv1 HO]
  · isplitl [H3]; · iexact H3
    isplitl [H9]; · iexact H9
    isplitl [Hv1]; · iexact Hv1
    isplitl [HO]; · iexact HO
    iexact HM
  iintro ⟨H3, H9, Hv1, HO⟩
  -- the first table's rows
  iapply (wp_gatherPair EC 𝒱 d _ _ bd arg4 arg10 arg8 (sem := arg11.sem) (hp := rfl) (he := rfl) (hsp := Or.inl rfl) (hr := by decide)
    (fl := arg8.view.write (Elt F) f8 ((listOf arg2 i).view.read (Elt F) f2) Finset.univ) ι hin8) $$ [H4 H10 H8 Hv HO]
  · isplitl [H4]; · iexact H4
    isplitl [H10]; · iexact H10
    isplitl [H8]; · iexact H8
    isplitl [Hv]; · iexact Hv
    isplitl [HO]; · iexact HO
    iexact HM
  iintro ⟨H4, ⟨%G, %hG, H10⟩, H8, Hv, ⟨%W1, %hW1, HO⟩⟩
  iapply (wp_copy EC 𝒱 d _ _ bd (src := arg10) (dst := rowsOf arg6 i) (sem := r2.sem) ι hpos10) $$ [H10 H6 Hv2 HO]
  · isplitl [H10]; · iexact H10
    isplitl [H6]; · iexact H6
    isplitl [Hv2]; · iexact Hv2
    isplitl [HO]; · iexact HO
    iexact HM
  iintro ⟨H10, H6, Hv2, HO⟩
  -- the second table's rows
  iapply (wp_gatherPair EC 𝒱 d _ _ bd arg5 arg10 arg9 (sem := arg11.sem) (hp := rfl) (he := rfl) (hsp := Or.inl rfl) (hr := by decide)
    (fl := arg9.view.write (Elt F) f9 ((listOf arg3 i).view.read (Elt F) f3) Finset.univ) ι hin9) $$ [H5 H10 H9 Hv HO]
  · isplitl [H5]; · iexact H5
    isplitl [H10]; · iexact H10
    isplitl [H9]; · iexact H9
    isplitl [Hv]; · iexact Hv
    isplitl [HO]; · iexact HO
    iexact HM
  iintro ⟨H5, ⟨%G', %hG', H10⟩, H9, Hv, ⟨%W2, %hW2, HO⟩⟩
  iapply (wp_copy EC 𝒱 d _ _ bd (src := arg10) (dst := rowsOf arg7 i) (sem := r3.sem) ι hpos10) $$ [H10 H7 Hv3 HO]
  · isplitl [H10]; · iexact H10
    isplitl [H7]; · iexact H7
    isplitl [Hv3]; · iexact Hv3
    isplitl [HO]; · iexact HO
    iexact HM
  iintro ⟨H10, H7, Hv3, HO⟩
  rw [show ((Prog.ret PUnit.unit : Prog (TpuEff nD τ sig (Elt F) _ _) PUnit).bind fun _ => Pure.pure PUnit.unit) = Prog.ret PUnit.unit from rfl, wp_ret]
  imodintro
  iapply Hk
  isplitl [H2 H2r]
  · iapply (pointsTo_split_subset hs2).2
    isplitl [H2] <;> iassumption
  isplitl [H3 H3r]
  · iapply (pointsTo_split_subset hs3).2
    isplitl [H3] <;> iassumption
  isplitl [H4]; · iexact H4
  isplitl [H5]; · iexact H5
  isplitl [H6]
  · iapply (Entails.of_eq (rows_written d i arg6 _ G6 _ fun x => ?_)) $$ H6
    rw [hG, hG6, read_fetched]
    exact picked_eq _ _ i _ (fun u k => read_listOf arg2 i f2 u k) x
  isplitl [H7]
  · iapply (Entails.of_eq (rows_written d i arg7 _ G7 _ fun x => ?_)) $$ H7
    rw [hG', hG7, read_fetched]
    exact picked_eq _ _ i _ (fun u k => read_listOf arg3 i f3 u k) x
  isplitl [H8]; · iexists _; iexact H8
  isplitl [H9]; · iexists _; iexact H9
  isplitl [H10]; · iexists _; iexact H10
  isplitl [Hv]; · iexact Hv
  isplitl [Hv0]; · iexact Hv0
  isplitl [Hv1]; · iexact Hv1
  isplitl [Hv2]; · iexact Hv2
  isplitl [Hv3]; · iexact Hv3
  iexists (insert (SemLoc.dma r3.sem, ι) W2)
  isplitr [HO]
  · ipureintro
    intro p hp
    rcases Finset.mem_insert.mp hp with h | hp
    · exact Or.inr (by rw [h])
    rcases hW2 p hp with hp | h
    swap; · exact Or.inr (by rw [h])
    rcases Finset.mem_insert.mp hp with h | hp
    · exact Or.inr (by rw [h])
    rcases hW1 p hp with hp | h
    swap; · exact Or.inr (by rw [h])
    rcases Finset.mem_insert.mp hp with h | hp
    · exact Or.inr (by rw [h])
    rcases Finset.mem_insert.mp hp with h | hp
    · exact Or.inr (by rw [h])
    · exact Or.inl hp
  · iexact HO

end Run

end Cert.Rows

end
-- ==== Proof.Setup.lean ====
/-
  The program as its launch sees it: the two SparseCore calls and what each hands its 32 tiles. A call's six arrays are two
  arrays of row numbers, two tables and two results; a tile is handed one of 32 equal shares of the first four, and its own
  256 rows of each result.
-/
module

public import proofs.«01_k».proof.Proof.Tile
public import Idealize.ShloMosaic.Lib.SparseCore.Quiescent
public import Idealize.ShloMosaic.Lib.SparseCore.Stream
public import Idealize.ShloMosaic.Lib.StableHlo.Run
public import Idealize.ShloMosaic.Lib.Pipeline.Frame
public import Idealize.ShloMosaic.Lib.Tactic
public import proofs.«01_k».proof.Proof.Gen.KernelIdeal.Launch

@[expose] public section

noncomputable section

namespace Cert.Rows

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := (UH × UP) × Counters

local notation "𝕄" => MT nD τ sig (HIx 2) (Elt F) ℕ UU ℕ

abbrev EH : Emb UH (MT nD τ sig (HIx 2) (Elt F) ℕ UU ℕ) := (Emb.inl : Emb UH (UH × UP)).trans embL
abbrev EP : Emb UP (MT nD τ sig (HIx 2) (Elt F) ℕ UU ℕ) := (Emb.inr : Emb UP (UH × UP)).trans embL
abbrev EC : UEmb Counters (MT nD τ sig (HIx 2) (Elt F) ℕ UU ℕ) := countersEmb (U := UU)

instance : (EH : Emb UH 𝕄).LandsIn (upEmb : UEmb _ 𝕄) := by unfold EH embL; infer_instance
instance : (EP : Emb UP 𝕄).LandsIn (upEmb : UEmb _ 𝕄) := by unfold EP embL; infer_instance
instance : (EC : UEmb Counters 𝕄).LandsIn (upEmb : UEmb _ 𝕄) := by unfold EC; infer_instance

/-! ## What a call's tiles are handed -/

theorem div32 : 32 ∣ S8192x128.size 0 := ⟨256, rfl⟩

/-- Rows `256 t` to `256 t + 255`. -/
def rows (t : Fin 32) : Finset S8192x128.Idx := (Rect.part (s := S8192x128) (a₀ := 0) div32 t).set

theorem rows_disjoint : ∀ i ∈ (Finset.univ : Finset (Fin 32)), ∀ j ∈ (Finset.univ : Finset (Fin 32)), i ≠ j → Disjoint (rows i) (rows j) :=
  fun _ _ _ _ h => Rect.part_disjoint div32 h
theorem rows_cover : (Finset.univ : Finset (Fin 32)).biUnion rows = Finset.univ := Rect.biUnion_part div32

/-- Tile `t`'s share of what all tiles read. -/
abbrev piece (t : Fin 32) : PosShare TreeShare := pieceOf fullShare 32 (by decide) t

/-- What tile `t` is handed of the six arrays `r2` … `r7`, at the contents `V`. -/
def part (d : Dev nD) (r2 r3 r4 r5 r6 r7 : DevRef τ sig) (R6 : Fin 32 → Finset (Idx ((d, r6) : Loc nD τ sig))) (R7 : Fin 32 → Finset (Idx ((d, r7) : Loc nD τ sig)))
    (t : Fin 32) (V : Valuation τ sig (Elt F)) : sProp 𝕄 :=
  iprop((((d, r2) : Loc nD τ sig) ↦{piece t} V r2) ∗ (((d, r3) : Loc nD τ sig) ↦{piece t} V r3) ∗ (((d, r4) : Loc nD τ sig) ↦{piece t} V r4)
    ∗ (((d, r5) : Loc nD τ sig) ↦{piece t} V r5) ∗ (((d, r6) : Loc nD τ sig) ↦[R6 t]{fullShare} V r6) ∗ (((d, r7) : Loc nD τ sig) ↦[R7 t]{fullShare} V r7))

instance part_storable (d : Dev nD) (r2 r3 r4 r5 r6 r7 : DevRef τ sig) (R6 R7) (t : Fin 32) (V : Valuation τ sig (Elt F)) :
    BI.Storable (upEmb : UEmb _ 𝕄) (part d r2 r3 r4 r5 r6 r7 R6 R7 t V) := by unfold part; infer_instance

/-- The six arrays whole are the 32 tiles' parts at once. -/
theorem parts_eq (d : Dev nD) (r2 r3 r4 r5 r6 r7 : DevRef τ sig) (R6 : Fin 32 → Finset (Idx ((d, r6) : Loc nD τ sig))) (R7 : Fin 32 → Finset (Idx ((d, r7) : Loc nD τ sig)))
    (h6 : ∀ i ∈ (Finset.univ : Finset (Fin 32)), ∀ j ∈ (Finset.univ : Finset (Fin 32)), i ≠ j → Disjoint (R6 i) (R6 j)) (c6 : Finset.univ.biUnion R6 = Finset.univ)
    (h7 : ∀ i ∈ (Finset.univ : Finset (Fin 32)), ∀ j ∈ (Finset.univ : Finset (Fin 32)), i ≠ j → Disjoint (R7 i) (R7 j)) (c7 : Finset.univ.biUnion R7 = Finset.univ)
    (V : Valuation τ sig (Elt F)) :
    (iprop((((d, r2) : Loc nD τ sig) ↦{fullShare} V r2) ∗ (((d, r3) : Loc nD τ sig) ↦{fullShare} V r3) ∗ (((d, r4) : Loc nD τ sig) ↦{fullShare} V r4)
        ∗ (((d, r5) : Loc nD τ sig) ↦{fullShare} V r5) ∗ (((d, r6) : Loc nD τ sig) ↦{fullShare} V r6) ∗ (((d, r7) : Loc nD τ sig) ↦{fullShare} V r7)) : sProp 𝕄)
      = bigSep Finset.univ fun t : Fin 32 => part d r2 r3 r4 r5 r6 r7 R6 R7 t V := by
  unfold part
  rw [bigSep_sep', bigSep_sep', bigSep_sep', bigSep_sep', bigSep_sep',
    ← pointsTo_biUnion Finset.univ R6 h6, ← pointsTo_biUnion Finset.univ R7 h7, c6, c7,
    ← pointsTo_piecesOf, ← pointsTo_piecesOf, ← pointsTo_piecesOf, ← pointsTo_piecesOf]

abbrev rf (r : Ref sig .tc) : DevRef τ sig := Proc.devRef .tc r

/-- What call `q` hands tile `t` at the contents `V`. -/
def task (q : Fin 2) (d : Dev nD) (t : Fin 32) (V : Valuation τ sig (Elt F)) : sProp 𝕄 :=
  match q with
  | 0 => part d (rf main_v13) (rf main_v15) (rf main_arg1) (rf main_arg2) (rf main_v16_0) (rf main_v16_1) rows rows t V
  | 1 => part d (rf main_v19) (rf main_v21) (rf main_arg1) (rf main_arg2) (rf main_v22_0) (rf main_v22_1) rows rows t V

instance task_storable (q : Fin 2) (d : Dev nD) (t : Fin 32) (V : Valuation τ sig (Elt F)) : BI.Storable (upEmb : UEmb _ 𝕄) (task q d t V) :=
  match q with
  | 0 => by unfold task; infer_instance
  | 1 => by unfold task; infer_instance

/-- The six arrays of call `q`. -/
def operands (q : Fin 2) : Finset (DevRef τ sig) :=
  match q with
  | 0 => {rf main_v13, rf main_v15, rf main_arg1, rf main_arg2, rf main_v16_0, rf main_v16_1}
  | 1 => {rf main_v19, rf main_v21, rf main_arg1, rf main_arg2, rf main_v22_0, rf main_v22_1}

/-- The contents after call `q`: each result's rows are the rows of its table that its row numbers name. -/
def called (q : Fin 2) (V : Valuation τ sig (Elt F)) : Valuation τ sig (Elt F) :=
  match q with
  | 0 => Function.update (Function.update V (rf main_v16_0) (gathered (V (rf main_v13)) (V (rf main_arg1)))) (rf main_v16_1) (gathered (V (rf main_v15)) (V (rf main_arg2)))
  | 1 => Function.update (Function.update V (rf main_v22_0) (gathered (V (rf main_v19)) (V (rf main_arg1)))) (rf main_v22_1) (gathered (V (rf main_v21)) (V (rf main_arg2)))

/-- The tile of subcore `i` of SparseCore `c`. -/
def tileAt (c i : ℕ) : Fin 32 := Fin.ofNat 32 (2 * i + c)

/-- Tiles in twos. -/
theorem bigSep_tiles (Φ : Fin 32 → sProp 𝕄) :
    bigSep Finset.univ Φ = bigSep Finset.univ fun c : Fin 2 => bigSep Finset.univ fun i : Fin 16 => Φ (tileAt c i) := by
  rw [bigSep_univ_equiv (finProdFinEquiv : Fin 16 × Fin 2 ≃ Fin 32) Φ, bigSep_univ_prod, bigSep_univ_comm]
  refine bigSep_congr fun c _ => bigSep_congr fun i _ => congrArg Φ (Fin.ext ?_)
  show c.val + 2 * i.val = (2 * i.val + c.val) % 32
  have := c.isLt; have := i.isLt; omega

theorem held_operands0 (d : Dev nD) (V : Valuation τ sig (Elt F)) :
    (StableHlo.held (SparseCore.T d) (operands 0) V : sProp 𝕄) = bigSep Finset.univ fun t : Fin 32 => task 0 d t V := by
  unfold StableHlo.held operands task
  simp only
  rw [SparseCore.bigSep_insert' (by decide), SparseCore.bigSep_insert' (by decide), SparseCore.bigSep_insert' (by decide), SparseCore.bigSep_insert' (by decide),
    SparseCore.bigSep_insert' (by decide), bigSep_singleton]
  exact parts_eq d (rf main_v13) (rf main_v15) (rf main_arg1) (rf main_arg2) (rf main_v16_0) (rf main_v16_1) rows rows rows_disjoint rows_cover rows_disjoint rows_cover V

theorem held_operands1 (d : Dev nD) (V : Valuation τ sig (Elt F)) :
    (StableHlo.held (SparseCore.T d) (operands 1) V : sProp 𝕄) = bigSep Finset.univ fun t : Fin 32 => task 1 d t V := by
  unfold StableHlo.held operands task
  simp only
  rw [SparseCore.bigSep_insert' (by decide), SparseCore.bigSep_insert' (by decide), SparseCore.bigSep_insert' (by decide), SparseCore.bigSep_insert' (by decide),
    SparseCore.bigSep_insert' (by decide), bigSep_singleton]
  exact parts_eq d (rf main_v19) (rf main_v21) (rf main_arg1) (rf main_arg2) (rf main_v22_0) (rf main_v22_1) rows rows rows_disjoint rows_cover rows_disjoint rows_cover V

/-- The six arrays of a call held whole are its tiles' parts at once. -/
theorem held_operands (q : Fin 2) (d : Dev nD) (V : Valuation τ sig (Elt F)) :
    (StableHlo.held (SparseCore.T d) (operands q) V : sProp 𝕄)
      = bigSep Finset.univ fun c : Fin ((K (F := F)).nCore q) => bigSep Finset.univ fun i : Fin ((K (F := F)).nSub q) => task q d (tileAt c i) V :=
  match q with
  | 0 => (held_operands0 d V).trans (bigSep_tiles fun t => task 0 d t V)
  | 1 => (held_operands1 d V).trans (bigSep_tiles fun t => task 1 d t V)

/-- What the two calls carry, entered at the contents `W`. -/
def P (W : Fin 2 → Dev nD → Valuation τ sig (Elt F)) : (K (F := F)).Pay (nD := nD) (Val := Elt F) (Name := ℕ) (U := UU) where
  st := fun q d c => bigSep Finset.univ fun i : Fin ((K (F := F)).nSub q) => task q d (tileAt c i) (W q d)
  dn := fun q d c => bigSep Finset.univ fun i : Fin ((K (F := F)).nSub q) => task q d (tileAt c i) (called q (W q d))
  go := fun q d c i => task q d (tileAt c i) (W q d)
  td := fun q d c i => task q d (tileAt c i) (called q (W q d))
  x := fun _ _ => iprop(emp)

instance P_storable (W : Fin 2 → Dev nD → Valuation τ sig (Elt F)) : (P W).IsStorable where
  st q d c := by unfold P; infer_instance
  dn q d c := by unfold P; infer_instance
  go q d c i := by unfold P; infer_instance
  td q d c i := by unfold P; infer_instance

theorem vecSplit (W : Fin 2 → Dev nD → Valuation τ sig (Elt F)) (q : Fin 2) : (K (F := F)).VecSplit' (P W) q := by
  intro d c
  unfold P
  iintro H; imodintro
  isplitl [H]; · iexact H
  iintro H; iexact H

end Cert.Rows

end
-- ==== Proof.TileRun.lean ====
/-
  The tiles' part of the launch: on every tile, each of the two calls runs its kernel from what the call hands the tile to
  what the tile hands back.
-/
module

public import proofs.«01_k».proof.Proof.Setup

@[expose] public section

noncomputable section

namespace Cert.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-- Every row number call `q` reads is a row of the tables. -/
def inRange (q : Fin 2) (V : Valuation τ sig (Elt F)) : Prop :=
  match q with
  | 0 => (∀ x, ((V (rf main_v13) : S32x2x128.Idx → BitVec 32) x).toNat < 1000) ∧ ∀ x, ((V (rf main_v15) : S32x2x128.Idx → BitVec 32) x).toNat < 1000
  | 1 => (∀ x, ((V (rf main_v19) : S32x2x128.Idx → BitVec 32) x).toNat < 1000) ∧ ∀ x, ((V (rf main_v21) : S32x2x128.Idx → BitVec 32) x).toNat < 1000

/-! ## A tile's scratch -/

section Scratch

variable (d : Dev nD) (a : Fin τ.nSC) (b : Fin τ.nSub)

/-- Three distinct buffers of a tile out of all its buffers. -/
theorem ownBufs_take (b0 b1 b2 : Ref sig .scVector)
    (m0 : (Proc.scVector a b).devRef b0 ∈ ownRefs (τ := τ) (sig := sig) (.scVector a b)) (m1 : (Proc.scVector a b).devRef b1 ∈ ownRefs (τ := τ) (sig := sig) (.scVector a b))
    (m2 : (Proc.scVector a b).devRef b2 ∈ ownRefs (τ := τ) (sig := sig) (.scVector a b)) (h01 : b1 ≠ b0) (h02 : b2 ≠ b0) (h12 : b2 ≠ b1) :
    (ownBufs (thr d a b) : sProp 𝕄)
      = iprop((∃ f, (thr d a b).loc b0 ↦{fullShare} f) ∗ (∃ f, (thr d a b).loc b1 ↦{fullShare} f) ∗ (∃ f, (thr d a b).loc b2 ↦{fullShare} f)
          ∗ bigSep ((((ownRefs (τ := τ) (sig := sig) (.scVector a b)).erase ((Proc.scVector a b).devRef b0)).erase ((Proc.scVector a b).devRef b1)).erase ((Proc.scVector a b).devRef b2))
              fun r => iprop(∃ f, ((d, r) : Loc nD τ sig) ↦{fullShare} f)) := by
  unfold SparseCore.Cfg.ownBufs
  have inj : ∀ {x y : Ref sig .scVector}, x ≠ y → (Proc.scVector a b).devRef x ≠ (Proc.scVector a b).devRef y := fun h e => h (Proc.devRef_injective _ e)
  refine (SparseCore.bigSep_erase' m0).trans ?_
  rw [SparseCore.bigSep_erase' (Finset.mem_erase.mpr ⟨inj h01, m1⟩),
    SparseCore.bigSep_erase' (Finset.mem_erase.mpr ⟨inj h12, Finset.mem_erase.mpr ⟨inj h02, m2⟩⟩)]

/-- Five distinct semaphores of a tile out of all its semaphores. -/
theorem ownSems_take (s0 s1 s2 s3 s4 : SemLoc sig) (hd : [s0, s1, s2, s3, s4].Nodup) (hm : ∀ s ∈ [s0, s1, s2, s3, s4], s.isScoped .scVector = true) :
    ∃ R : sProp 𝕄, (ownSems0 (thr d a b) : sProp 𝕄)
      = iprop(semVal (thr d a b, s0) 0 ∗ semVal (thr d a b, s1) 0 ∗ semVal (thr d a b, s2) 0 ∗ semVal (thr d a b, s3) 0 ∗ semVal (thr d a b, s4) 0 ∗ R) := by
  have mem : ∀ s ∈ [s0, s1, s2, s3, s4], ((thr d a b, s) : GSem nD τ sig) ∈ ownCells (thr d a b) := fun s hs => mem_ownCells.mpr ⟨rfl, hm s hs⟩
  have ne : ∀ {x y : SemLoc sig}, x ≠ y → ((thr d a b, x) : GSem nD τ sig) ≠ (thr d a b, y) := fun h e => h (Prod.mk.inj e).2
  simp only [List.nodup_cons, List.mem_cons, List.not_mem_nil, or_false, not_or, List.nodup_nil, and_true, not_false_eq_true] at hd
  obtain ⟨⟨h01, h02, h03, h04⟩, ⟨h12, h13, h14⟩, ⟨h23, h24⟩, h34⟩ := hd
  refine ⟨bigSep ((((((ownCells (thr d a b)).erase (thr d a b, s0)).erase (thr d a b, s1)).erase (thr d a b, s2)).erase (thr d a b, s3)).erase (thr d a b, s4)) fun g => semVal g 0, ?_⟩
  unfold SparseCore.Cfg.ownSems0
  rw [SparseCore.bigSep_erase' (mem s0 (by simp)),
    SparseCore.bigSep_erase' (Finset.mem_erase.mpr ⟨ne (Ne.symm h01), mem s1 (by simp)⟩),
    SparseCore.bigSep_erase' (Finset.mem_erase.mpr ⟨ne (Ne.symm h12), Finset.mem_erase.mpr ⟨ne (Ne.symm h02), mem s2 (by simp)⟩⟩),
    SparseCore.bigSep_erase' (Finset.mem_erase.mpr ⟨ne (Ne.symm h23), Finset.mem_erase.mpr ⟨ne (Ne.symm h13), Finset.mem_erase.mpr ⟨ne (Ne.symm h03), mem s3 (by simp)⟩⟩⟩),
    SparseCore.bigSep_erase' (Finset.mem_erase.mpr ⟨ne (Ne.symm h34), Finset.mem_erase.mpr ⟨ne (Ne.symm h24), Finset.mem_erase.mpr ⟨ne (Ne.symm h14),
      Finset.mem_erase.mpr ⟨ne (Ne.symm h04), mem s4 (by simp)⟩⟩⟩⟩)]

end Scratch

/-! ## The run of a tile, from its part of the operands and its own storage -/

section Body

variable (d : Dev nD) (i : grid0.Coords)

abbrev tid (d : Dev nD) (i : grid0.Coords) : Thread nD τ := thr d ((i 0).castLE hcore0) ((i 1).castLE hsub0)

set_option maxHeartbeats 2000000 in
/-- The tile's run over the launch's storage: its shares of the four arrays it reads come back, its rows of the results
    hold the rows its row numbers name, its own storage comes back. -/
theorem tile_body
    (arg2 : Memref sig .scVector .hbm S32x2x128 .i32) (harg2 : arg2.IsWhole) (arg3 : Memref sig .scVector .hbm S32x2x128 .i32) (harg3 : arg3.IsWhole)
    (arg4 : Memref sig .scVector .hbm S1000x128 .f32) (harg4 : arg4.IsWhole) (arg5 : Memref sig .scVector .hbm S1000x128 .f32) (harg5 : arg5.IsWhole)
    (arg6 : Memref sig .scVector .hbm S8192x128 .f32) (harg6 : arg6.IsWhole) (arg7 : Memref sig .scVector .hbm S8192x128 .f32) (harg7 : arg7.IsWhole)
    (arg8 : Memref sig .scVector .vmem S2x128 .i32) (harg8 : arg8.IsWhole) (arg9 : Memref sig .scVector .vmem S2x128 .i32) (harg9 : arg9.IsWhole)
    (arg10 : Memref sig .scVector .vmem S256x128 .f32) (harg10 : arg10.IsWhole)
    (arg11 r0 r1 r2 r3 : DmaSems sig S_) {O : CellTallies nD τ sig (HIx 2)} {W : Waits sig (HIx 2)} (hO : ∀ g, O g none = 0)
    {q : PosShare TreeShare} {f2 : Buf (Elt F) (arg2.view.loc (tid d i))} {f3 : Buf (Elt F) (arg3.view.loc (tid d i))}
    {f4 : Buf (Elt F) (arg4.view.loc (tid d i))} {f5 : Buf (Elt F) (arg5.view.loc (tid d i))} {f6 G6 : Buf (Elt F) (arg6.view.loc (tid d i))}
    {f7 G7 : Buf (Elt F) (arg7.view.loc (tid d i))}
    (s2 : arg2.view.set = Finset.univ) (s3 : arg3.view.set = Finset.univ) (s4 : arg4.view.set = Finset.univ) (s5 : arg5.view.set = Finset.univ)
    (s8 : arg8.view.set = Finset.univ) (s9 : arg9.view.set = Finset.univ) (s10 : arg10.view.set = Finset.univ)
    {RB RS : sProp 𝕄}
    (hB : (ownBufs (tid d i) : sProp 𝕄) = iprop((∃ f, arg8.view.loc (tid d i) ↦{fullShare} f) ∗ (∃ f, arg9.view.loc (tid d i) ↦{fullShare} f)
      ∗ (∃ f, arg10.view.loc (tid d i) ↦{fullShare} f) ∗ RB))
    (hS : (ownSems0 (tid d i) : sProp 𝕄) = iprop(semVal (tid d i, SemLoc.dma arg11.sem) 0 ∗ semVal (tid d i, SemLoc.dma r0.sem) 0 ∗ semVal (tid d i, SemLoc.dma r1.sem) 0
      ∗ semVal (tid d i, SemLoc.dma r2.sem) 0 ∗ semVal (tid d i, SemLoc.dma r3.sem) 0 ∗ RS))
    (h2 : ∀ x, (arg2.view.read (Elt F) f2 x).toNat < 1000) (h3 : ∀ x, (arg3.view.read (Elt F) f3 x).toNat < 1000)
    (hG6 : arg6.view.read (Elt F) G6 = gathered (arg2.view.read (Elt F) f2) (arg4.view.read (Elt F) f4))
    (hG7 : arg7.view.read (Elt F) G7 = gathered (arg3.view.read (Elt F) f3) (arg5.view.read (Elt F) f5)) :
    iprop((levAts (K (F := F)).L (K (F := F)).lev : sProp 𝕄) ∗ emp
        ∗ ((arg2.view.loc (tid d i) ↦{q} f2) ∗ (arg3.view.loc (tid d i) ↦{q} f3) ∗ (arg4.view.loc (tid d i) ↦{q} f4) ∗ (arg5.view.loc (tid d i) ↦{q} f5)
          ∗ (arg6.view.loc (tid d i) ↦[(rowsOf arg6 i).view.set]{fullShare} f6) ∗ (arg7.view.loc (tid d i) ↦[(rowsOf arg7 i).view.set]{fullShare} f7))
        ∗ scopedBufs (tid d i) ∗ scopedSems0 (tid d i) ∗ owes (tid d i) O W)
      ⊢ wp frame (wpE (defs₀ (F := F)) 𝒱₀ (tid d i) none) Set.univ
          (cc0_k (F := F) i arg2 harg2 arg3 harg3 arg4 harg4 arg5 harg5 arg6 harg6 arg7 harg7 arg8 harg8 arg9 harg9 arg10 harg10 arg11 r0 r1 r2 r3)
          fun _ => iprop(((arg2.view.loc (tid d i) ↦{q} f2) ∗ (arg3.view.loc (tid d i) ↦{q} f3) ∗ (arg4.view.loc (tid d i) ↦{q} f4) ∗ (arg5.view.loc (tid d i) ↦{q} f5)
              ∗ (arg6.view.loc (tid d i) ↦[(rowsOf arg6 i).view.set]{fullShare} G6) ∗ (arg7.view.loc (tid d i) ↦[(rowsOf arg7 i).view.set]{fullShare} G7))
            ∗ scopedBufs (tid d i) ∗ scopedSems0 (tid d i) ∗ ∃ W', ⌜∀ p ∈ W', p ∈ W ∨ p.2 = none⌝ ∗ owes (tid d i) O W') := by
  rw [(K (F := F)).scopedBufs_V facts d ((i 0).castLE hcore0) ((i 1).castLE hsub0), SparseCore.Cfg.scopedSems0_V (Val := Elt F) d ((i 0).castLE hcore0) ((i 1).castLE hsub0), hB, hS]
  iintro ⟨#Hlv, -, ⟨H2, H3, H4, H5, H6, H7⟩, ⟨⟨%f8, H8⟩, ⟨%f9, H9⟩, ⟨%f10, H10⟩, HB⟩, ⟨Hv, Hv0, Hv1, Hv2, Hv3, HS⟩, HO⟩
  ihave Hmw := (show levAts (K (F := F)).L (K (F := F)).lev ⊢ Transfers.MayWaits (tid d i) (none : HIx 2) O from
    (K (F := F)).mayWaits_none (thr := tid d i) hO) $$ Hlv
  have tile := wp_tile (defs := defs₀ (F := F)) (EC (F := F)) 𝒱₀ d i none arg2 harg2 arg3 harg3 arg4 harg4 arg5 harg5 arg6 harg6 arg7 harg7
    arg8 harg8 arg9 harg9 arg10 harg10 arg11 r0 r1 r2 r3 (none : HIx 2) (O := O) (W := W) (q2 := q) (q3 := q) (q4 := q) (q5 := q)
    (f6 := f6) (f7 := f7) (f8 := f8) (f9 := f9) (f10 := f10) h2 h3 hG6 hG7
    (Q := fun _ => iprop(((arg2.view.loc (tid d i) ↦{q} f2) ∗ (arg3.view.loc (tid d i) ↦{q} f3) ∗ (arg4.view.loc (tid d i) ↦{q} f4) ∗ (arg5.view.loc (tid d i) ↦{q} f5)
              ∗ (arg6.view.loc (tid d i) ↦[(rowsOf arg6 i).view.set]{fullShare} G6) ∗ (arg7.view.loc (tid d i) ↦[(rowsOf arg7 i).view.set]{fullShare} G7))
            ∗ ((∃ f, arg8.view.loc (tid d i) ↦{fullShare} f) ∗ (∃ f, arg9.view.loc (tid d i) ↦{fullShare} f) ∗ (∃ f, arg10.view.loc (tid d i) ↦{fullShare} f) ∗ RB)
            ∗ (semVal (tid d i, SemLoc.dma arg11.sem) 0 ∗ semVal (tid d i, SemLoc.dma r0.sem) 0 ∗ semVal (tid d i, SemLoc.dma r1.sem) 0
                ∗ semVal (tid d i, SemLoc.dma r2.sem) 0 ∗ semVal (tid d i, SemLoc.dma r3.sem) 0 ∗ RS)
            ∗ ∃ W', ⌜∀ p ∈ W', p ∈ W ∨ p.2 = none⌝ ∗ owes (tid d i) O W'))
  rw [s2, s3, s4, s5, s8, s9, s10] at tile
  iapply tile $$ [H2 H3 H4 H5 H6 H7 H8 H9 H10 Hv Hv0 Hv1 Hv2 Hv3 HO]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hv]; · iexact Hv
    isplitl [Hv0]; · iexact Hv0
    isplitl [Hv1]; · iexact Hv1
    isplitl [Hv2]; · iexact Hv2
    isplitl [Hv3]; · iexact Hv3
    isplitl [HO]; · iexact HO
    iexact Hmw
  iintro ⟨H2, H3, H4, H5, H6, H7, H8, H9, H10, Hv, Hv0, Hv1, Hv2, Hv3, HO⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 HB]
  · isplitl [H8]; · iexact H8
    isplitl [H9]; · iexact H9
    isplitl [H10]; · iexact H10
    iexact HB
  isplitl [Hv Hv0 Hv1 Hv2 Hv3 HS]
  · isplitl [Hv]; · iexact Hv
    isplitl [Hv0]; · iexact Hv0
    isplitl [Hv1]; · iexact Hv1
    isplitl [Hv2]; · iexact Hv2
    isplitl [Hv3]; · iexact Hv3
    iexact HS
  iexact HO

end Body

/-! ## The contents a call leaves -/

theorem called_keep (q : Fin 2) (V : Valuation τ sig (Elt F)) {b : DevRef τ sig}
    (h : b ≠ (match q with | 0 => rf main_v16_0 | 1 => rf main_v22_0) ∧ b ≠ (match q with | 0 => rf main_v16_1 | 1 => rf main_v22_1)) :
    called q V b = V b :=
  match q with
  | 0 => (Function.update_of_ne h.2 _ _).trans (Function.update_of_ne h.1 _ _)
  | 1 => (Function.update_of_ne h.2 _ _).trans (Function.update_of_ne h.1 _ _)

theorem called_0_fst (V : Valuation τ sig (Elt F)) : called 0 V (rf main_v16_0) = gathered (V (rf main_v13)) (V (rf main_arg1)) :=
  (Function.update_of_ne (show rf main_v16_0 ≠ rf main_v16_1 by decide) _ _).trans (Function.update_self _ _ _)
theorem called_0_snd (V : Valuation τ sig (Elt F)) : called 0 V (rf main_v16_1) = gathered (V (rf main_v15)) (V (rf main_arg2)) := by
  unfold called; exact Function.update_self _ _ _
theorem called_1_fst (V : Valuation τ sig (Elt F)) : called 1 V (rf main_v22_0) = gathered (V (rf main_v19)) (V (rf main_arg1)) :=
  (Function.update_of_ne (show rf main_v22_0 ≠ rf main_v22_1 by decide) _ _).trans (Function.update_self _ _ _)
theorem called_1_snd (V : Valuation τ sig (Elt F)) : called 1 V (rf main_v22_1) = gathered (V (rf main_v21)) (V (rf main_arg2)) := by
  unfold called; exact Function.update_self _ _ _

/-! ## The two calls -/

section Calls

variable (d : Dev nD) (i : grid0.Coords)

/-- The rows a tile writes, as one of the 32 equal parts. -/
theorem rows_rect : Rect.unit (s := S8192x128) (k0_off2 i) S256x128.size (k0_off2_inb i) = Rect.part (s := S8192x128) (a₀ := 0) div32 (tileAt (i 0).val (i 1).val) := by
  have h0 : (i 0).val < 2 := (i 0).isLt
  have h1 : (i 1).val < 16 := (i 1).isLt
  unfold Rect.part Rect.block
  congr 1 <;> funext a
  · rw [k0_off2_eq]
    match a with
    | 0 =>
      simp only [Shape.partIx, Shape.partSize, tileAt, Matrix.cons_val_zero, ↓reduceIte, Fin.ofNat]
      rw [Nat.mod_eq_of_lt (by omega)]
      show _ = _ * 256
      omega
    | 1 => simp [Shape.partIx, Shape.partSize]
  · match a with
    | 0 => simp [Shape.partSize]
    | 1 => simp [Shape.partSize]

theorem window_main_v16_0 : (rowsOf (Memref.whole main_v16_0_scv) i).view.set = rows (tileAt (i 0).val (i 1).val) :=
  (View.set_slice _ _).trans (Finset.map_refl.trans (congrArg (fun R : Rect S8192x128 => R.set) (rows_rect i)))
theorem window_main_v16_1 : (rowsOf (Memref.whole main_v16_1_scv) i).view.set = rows (tileAt (i 0).val (i 1).val) :=
  (View.set_slice _ _).trans (Finset.map_refl.trans (congrArg (fun R : Rect S8192x128 => R.set) (rows_rect i)))
theorem window_main_v22_0 : (rowsOf (Memref.whole main_v22_0_scv) i).view.set = rows (tileAt (i 0).val (i 1).val) :=
  (View.set_slice _ _).trans (Finset.map_refl.trans (congrArg (fun R : Rect S8192x128 => R.set) (rows_rect i)))
theorem window_main_v22_1 : (rowsOf (Memref.whole main_v22_1_scv) i).view.set = rows (tileAt (i 0).val (i 1).val) :=
  (View.set_slice _ _).trans (Finset.map_refl.trans (congrArg (fun R : Rect S8192x128 => R.set) (rows_rect i)))

/-- Call 0's kernel on a tile. -/
theorem tile_call0 (V : Valuation τ sig (Elt F)) (hV : inRange 0 V) {O : CellTallies nD τ sig (HIx 2)} {W : Waits sig (HIx 2)} (hO : ∀ g, O g none = 0) :
    iprop((levAts (K (F := F)).L (K (F := F)).lev : sProp 𝕄) ∗ emp ∗ task 0 d (tileAt (i 0).val (i 1).val) V
        ∗ scopedBufs (tid d i) ∗ scopedSems0 (tid d i) ∗ owes (tid d i) O W)
      ⊢ wp frame (wpE (defs₀ (F := F)) 𝒱₀ (tid d i) none) Set.univ
          (cc0_k (F := F) i (Memref.whole main_v13_scv) (Memref.isWhole_whole _) (Memref.whole main_v15_scv) (Memref.isWhole_whole _) (Memref.whole main_arg1_scv) (Memref.isWhole_whole _) (Memref.whole main_arg2_scv) (Memref.isWhole_whole _) (Memref.whole main_v16_0_scv) (Memref.isWhole_whole _) (Memref.whole main_v16_1_scv) (Memref.isWhole_whole _)
            (Memref.whole cc0_scratch0) (Memref.isWhole_whole _) (Memref.whole cc0_scratch1) (Memref.isWhole_whole _) (Memref.whole cc0_scratch2) (Memref.isWhole_whole _) cc0_scratch3 cc0_scoped0 cc0_scoped1 cc0_scoped2 cc0_scoped3)
          fun _ => iprop(task 0 d (tileAt (i 0).val (i 1).val) (called 0 V)
            ∗ scopedBufs (tid d i) ∗ scopedSems0 (tid d i) ∗ ∃ W', ⌜∀ p ∈ W', p ∈ W ∨ p.2 = none⌝ ∗ owes (tid d i) O W') := by
  obtain ⟨RS, hS⟩ := ownSems_take (F := F) d ((i 0).castLE hcore0) ((i 1).castLE hsub0) (SemLoc.dma cc0_scratch3.sem) (SemLoc.dma cc0_scoped0.sem) (SemLoc.dma cc0_scoped1.sem) (SemLoc.dma cc0_scoped2.sem) (SemLoc.dma cc0_scoped3.sem) (by decide) (by decide)
  have hB := ownBufs_take (F := F) d ((i 0).castLE hcore0) ((i 1).castLE hsub0) cc0_scratch0 cc0_scratch1 cc0_scratch2
    (SparseCore.Cfg.mem_ownRefs_of_owner (p := Proc.scVector ((i 0).castLE hcore0) ((i 1).castLE hsub0)) rfl)
    (SparseCore.Cfg.mem_ownRefs_of_owner (p := Proc.scVector ((i 0).castLE hcore0) ((i 1).castLE hsub0)) rfl)
    (SparseCore.Cfg.mem_ownRefs_of_owner (p := Proc.scVector ((i 0).castLE hcore0) ((i 1).castLE hsub0)) rfl) (by decide) (by decide) (by decide)
  have h := tile_body (F := F) d i (Memref.whole main_v13_scv) (Memref.isWhole_whole _) (Memref.whole main_v15_scv) (Memref.isWhole_whole _) (Memref.whole main_arg1_scv) (Memref.isWhole_whole _) (Memref.whole main_arg2_scv) (Memref.isWhole_whole _) (Memref.whole main_v16_0_scv) (Memref.isWhole_whole _) (Memref.whole main_v16_1_scv) (Memref.isWhole_whole _)
    (Memref.whole cc0_scratch0) (Memref.isWhole_whole _) (Memref.whole cc0_scratch1) (Memref.isWhole_whole _) (Memref.whole cc0_scratch2) (Memref.isWhole_whole _) cc0_scratch3 cc0_scoped0 cc0_scoped1 cc0_scoped2 cc0_scoped3
    (O := O) (W := W) hO (q := piece (tileAt (i 0).val (i 1).val)) (f2 := V (rf main_v13)) (f3 := V (rf main_v15)) (f4 := V (rf main_arg1)) (f5 := V (rf main_arg2))
    (f6 := V (rf main_v16_0)) (G6 := called 0 V (rf main_v16_0)) (f7 := V (rf main_v16_1)) (G7 := called 0 V (rf main_v16_1))
    (View.set_whole _) (View.set_whole _) (View.set_whole _) (View.set_whole _) (View.set_whole _) (View.set_whole _) (View.set_whole _) hB hS hV.1 hV.2
    (called_0_fst V) (called_0_snd V)
  rw [window_main_v16_0 i, window_main_v16_1 i] at h
  unfold task part
  simp only
  rw [called_keep 0 V (b := rf main_v13) (by decide), called_keep 0 V (b := rf main_v15) (by decide), called_keep 0 V (b := rf main_arg1) (by decide), called_keep 0 V (b := rf main_arg2) (by decide)]
  exact h

/-- Call 1's kernel on a tile. -/
theorem tile_call1 (V : Valuation τ sig (Elt F)) (hV : inRange 1 V) {O : CellTallies nD τ sig (HIx 2)} {W : Waits sig (HIx 2)} (hO : ∀ g, O g none = 0) :
    iprop((levAts (K (F := F)).L (K (F := F)).lev : sProp 𝕄) ∗ emp ∗ task 1 d (tileAt (i 0).val (i 1).val) V
        ∗ scopedBufs (tid d i) ∗ scopedSems0 (tid d i) ∗ owes (tid d i) O W)
      ⊢ wp frame (wpE (defs₀ (F := F)) 𝒱₀ (tid d i) none) Set.univ
          (cc2_k (F := F) i (Memref.whole main_v19_scv) (Memref.isWhole_whole _) (Memref.whole main_v21_scv) (Memref.isWhole_whole _) (Memref.whole main_arg1_scv) (Memref.isWhole_whole _) (Memref.whole main_arg2_scv) (Memref.isWhole_whole _) (Memref.whole main_v22_0_scv) (Memref.isWhole_whole _) (Memref.whole main_v22_1_scv) (Memref.isWhole_whole _)
            (Memref.whole cc2_scratch0) (Memref.isWhole_whole _) (Memref.whole cc2_scratch1) (Memref.isWhole_whole _) (Memref.whole cc2_scratch2) (Memref.isWhole_whole _) cc2_scratch3 cc2_scoped0 cc2_scoped1 cc2_scoped2 cc2_scoped3)
          fun _ => iprop(task 1 d (tileAt (i 0).val (i 1).val) (called 1 V)
            ∗ scopedBufs (tid d i) ∗ scopedSems0 (tid d i) ∗ ∃ W', ⌜∀ p ∈ W', p ∈ W ∨ p.2 = none⌝ ∗ owes (tid d i) O W') := by
  obtain ⟨RS, hS⟩ := ownSems_take (F := F) d ((i 0).castLE hcore0) ((i 1).castLE hsub0) (SemLoc.dma cc2_scratch3.sem) (SemLoc.dma cc2_scoped0.sem) (SemLoc.dma cc2_scoped1.sem) (SemLoc.dma cc2_scoped2.sem) (SemLoc.dma cc2_scoped3.sem) (by decide) (by decide)
  have hB := ownBufs_take (F := F) d ((i 0).castLE hcore0) ((i 1).castLE hsub0) cc2_scratch0 cc2_scratch1 cc2_scratch2
    (SparseCore.Cfg.mem_ownRefs_of_owner (p := Proc.scVector ((i 0).castLE hcore0) ((i 1).castLE hsub0)) rfl)
    (SparseCore.Cfg.mem_ownRefs_of_owner (p := Proc.scVector ((i 0).castLE hcore0) ((i 1).castLE hsub0)) rfl)
    (SparseCore.Cfg.mem_ownRefs_of_owner (p := Proc.scVector ((i 0).castLE hcore0) ((i 1).castLE hsub0)) rfl) (by decide) (by decide) (by decide)
  have h := tile_body (F := F) d i (Memref.whole main_v19_scv) (Memref.isWhole_whole _) (Memref.whole main_v21_scv) (Memref.isWhole_whole _) (Memref.whole main_arg1_scv) (Memref.isWhole_whole _) (Memref.whole main_arg2_scv) (Memref.isWhole_whole _) (Memref.whole main_v22_0_scv) (Memref.isWhole_whole _) (Memref.whole main_v22_1_scv) (Memref.isWhole_whole _)
    (Memref.whole cc2_scratch0) (Memref.isWhole_whole _) (Memref.whole cc2_scratch1) (Memref.isWhole_whole _) (Memref.whole cc2_scratch2) (Memref.isWhole_whole _) cc2_scratch3 cc2_scoped0 cc2_scoped1 cc2_scoped2 cc2_scoped3
    (O := O) (W := W) hO (q := piece (tileAt (i 0).val (i 1).val)) (f2 := V (rf main_v19)) (f3 := V (rf main_v21)) (f4 := V (rf main_arg1)) (f5 := V (rf main_arg2))
    (f6 := V (rf main_v22_0)) (G6 := called 1 V (rf main_v22_0)) (f7 := V (rf main_v22_1)) (G7 := called 1 V (rf main_v22_1))
    (View.set_whole _) (View.set_whole _) (View.set_whole _) (View.set_whole _) (View.set_whole _) (View.set_whole _) (View.set_whole _) hB hS hV.1 hV.2
    (called_1_fst V) (called_1_snd V)
  rw [window_main_v22_0 i, window_main_v22_1 i] at h
  unfold task part
  simp only
  rw [called_keep 1 V (b := rf main_v19) (by decide), called_keep 1 V (b := rf main_v21) (by decide), called_keep 1 V (b := rf main_arg1) (by decide), called_keep 1 V (b := rf main_arg2) (by decide)]
  exact h

end Calls

/-! ## The obligations -/
theorem defs₀_vector0 (c : Fin τ.nSC) (s : Fin τ.nSub) : defs₀ (F := F) (.scVector c s) 0 ()
    = SparseCore.onTile hcore0 hsub0 (fun c s => cc0_k (fun | 0 => c | 1 => s | ⟨_ + 2, h⟩ => absurd h (Nat.not_lt.2 (Nat.le_add_left _ _))) (Memref.whole main_v13_scv) (Memref.isWhole_whole _) (Memref.whole main_v15_scv) (Memref.isWhole_whole _) (Memref.whole main_arg1_scv) (Memref.isWhole_whole _) (Memref.whole main_arg2_scv) (Memref.isWhole_whole _) (Memref.whole main_v16_0_scv) (Memref.isWhole_whole _) (Memref.whole main_v16_1_scv) (Memref.isWhole_whole _) (Memref.whole cc0_scratch0) (Memref.isWhole_whole _) (Memref.whole cc0_scratch1) (Memref.isWhole_whole _) (Memref.whole cc0_scratch2) (Memref.isWhole_whole _) cc0_scratch3 cc0_scoped0 cc0_scoped1 cc0_scoped2 cc0_scoped3) ⟨⟩ c s := rfl
theorem defs₀_vector1 (c : Fin τ.nSC) (s : Fin τ.nSub) : defs₀ (F := F) (.scVector c s) 2 ()
    = SparseCore.onTile hcore2 hsub2 (fun c s => cc2_k (fun | 0 => c | 1 => s | ⟨_ + 2, h⟩ => absurd h (Nat.not_lt.2 (Nat.le_add_left _ _))) (Memref.whole main_v19_scv) (Memref.isWhole_whole _) (Memref.whole main_v21_scv) (Memref.isWhole_whole _) (Memref.whole main_arg1_scv) (Memref.isWhole_whole _) (Memref.whole main_arg2_scv) (Memref.isWhole_whole _) (Memref.whole main_v22_0_scv) (Memref.isWhole_whole _) (Memref.whole main_v22_1_scv) (Memref.isWhole_whole _) (Memref.whole cc2_scratch0) (Memref.isWhole_whole _) (Memref.whole cc2_scratch1) (Memref.isWhole_whole _) (Memref.whole cc2_scratch2) (Memref.isWhole_whole _) cc2_scratch3 cc2_scoped0 cc2_scoped1 cc2_scoped2 cc2_scoped3) ⟨⟩ c s := rfl

/-- What a tile hands back covers what its obligation asks: the waits it made are its own. -/
theorem obl_post {thr' : Thread nD τ} {A B C : sProp 𝕄} {O : CellTallies nD τ sig (HIx 2)} {w : Waits sig (HIx 2)} {q : Fin 2} :
    iprop(A ∗ B ∗ C ∗ ∃ W', ⌜∀ p ∈ W', p ∈ w ∨ p.2 = none⌝ ∗ owes thr' O W')
      ⊢ iprop(A ∗ B ∗ C ∗ ∃ W', ⌜∀ p ∈ W', p ∈ w ∨ p.2 = none ∨ p.2 = some q⌝ ∗ owes thr' O W') := by
  iintro ⟨HA, HB, HC, %W', %h, HO⟩
  isplitl [HA]; · iexact HA
  isplitl [HB]; · iexact HB
  isplitl [HC]; · iexact HC
  iexists W'
  isplitr
  · ipureintro; exact fun p hp => (h p hp).imp id Or.inl
  iexact HO

set_option maxRecDepth 16384 in
/-- Call 0's kernel meets its obligation on every tile. -/
theorem obl0 (W : Fin 2 → Dev nD → Valuation τ sig (Elt F)) (hW : ∀ d, inRange 0 (W 0 d)) : (K (F := F)).TileObl (D (F := F)) 𝒱 (P W) v₀ 0 := by
  intro d c i O w hO _ _
  simp only [show (P W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]
  simp only [SparseCore.onTile, hci, and_self, ↓reduceDIte]
  have h := tile_call0 (F := F) d (fun | 0 => ⟨((K (F := F)).core 0 c).val, hci.1⟩ | 1 => ⟨((K (F := F)).sub 0 i).val, hci.2⟩ | ⟨_ + 2, h⟩ => absurd h (Nat.not_lt.2 (Nat.le_add_left _ _))) (W 0 d) (hW d) (O := O) (W := w) hO
  exact h.trans (wp_mono frame _ _ fun _ => obl_post)

set_option maxRecDepth 16384 in
/-- Call 1's kernel meets its obligation on every tile. -/
theorem obl1 (W : Fin 2 → Dev nD → Valuation τ sig (Elt F)) (hW : ∀ d, inRange 1 (W 1 d)) : (K (F := F)).TileObl (D (F := F)) 𝒱 (P W) v₀ 1 := by
  intro d c i O w hO _ _
  simp only [show (P W).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]
  simp only [SparseCore.onTile, hci, and_self, ↓reduceDIte]
  have h := tile_call1 (F := F) d (fun | 0 => ⟨((K (F := F)).core 1 c).val, hci.1⟩ | 1 => ⟨((K (F := F)).sub 1 i).val, hci.2⟩ | ⟨_ + 2, h⟩ => absurd h (Nat.not_lt.2 (Nat.le_add_left _ _))) (W 1 d) (hW d) (O := O) (W := w) hO
  exact h.trans (wp_mono frame _ _ fun _ => obl_post)

end Cert.Rows

end
-- ==== Proof.Dense.lean ====
/-
  The dense part of the program, on one block of 1024 rows: from the block's gathered rows of the two tables and the weights
  in VMEM to the block's 1024 results.
-/
module

public import proofs.«01_k».proof.Proof.TileRun
public import proofs.«01_k».proof.Proof.Gen.KernelIdeal.Points
public import Idealize.ShloMosaic.Lib.VecWindow
public import Idealize.ShloMosaic.Lib.Pipeline.Value

@[expose] public section

noncomputable section

namespace Cert.Rows

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type} [FloatOps F] [Named F]

local notation "𝕄" => MT nD τ sig (HIx 2) (Elt F) ℕ UU ℕ

/-- The block's results, from its rows of the two tables, the two halves of the first weight, the first bias, the second
    weight and bias, the third weight and bias. -/
def dense (p n : S1024x128.Idx → Elt F .f32) (w1p w1n : S128x128.Idx → Elt F .f32) (b1 : S1x128.Idx → Elt F .f32) (w2 : S128x128.Idx → Elt F .f32)
    (b2 w3 : S1x128.Idx → Elt F .f32) (b3 : S1x1.Idx → Elt F .f32) : S1x1024.Idx → Elt F .f32 :=
  k1_pay1 (k1_pay2 p n w1p w1n b1 w2) (k1_pay3 b2) w3 b3

theorem zero_off : (![0, 0] : Fin 2 → Nat) = fun _ => 0 := funext fun a => by fin_cases a <;> rfl

/-- Memref `M`'s buffer on core `c` held whole at `f`. -/
abbrev hold (c : Dev nD) {sp : Space} {s : Shape} {e : EltTy} (M : Memref sig .tc sp s e) (f : Buf (Elt F) (M.view.loc (SparseCore.T c : Thread nD τ))) : sProp 𝕄 :=
  M.view.loc (SparseCore.T c : Thread nD τ) ↦{fullShare} f

set_option maxHeartbeats 4000000 in
/-- The block's run: the nine buffers it reads come back as they were, the result's buffer reads `dense` of them. -/
theorem wp_dense (c : Dev nD) (i : grid1.Coords)
    (arg1 : Memref sig .tc .vmem S1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x1 .f32) (harg9 : arg9.IsWhole) (arg10 : Memref sig .tc .vmem S1x1024 .f32) (harg10 : arg10.IsWhole)
    (f1 f2 f3 f4 f5 f6 f7 f8 f9 f10) (Q : PUnit → sProp 𝕄) :
    iprop(hold c arg1 f1 ∗ hold c arg2 f2 ∗ hold c arg3 f3 ∗ hold c arg4 f4 ∗ hold c arg5 f5 ∗ hold c arg6 f6 ∗ hold c arg7 f7 ∗ hold c arg8 f8
        ∗ hold c arg9 f9 ∗ hold c arg10 f10
        ∗ (iprop(hold c arg1 f1 ∗ hold c arg2 f2 ∗ hold c arg3 f3 ∗ hold c arg4 f4 ∗ hold c arg5 f5 ∗ hold c arg6 f6 ∗ hold c arg7 f7 ∗ hold c arg8 f8
            ∗ hold c arg9 f9 ∗ ∃ g, ⌜arg10.view.read (Elt F) g = dense (arg1.view.read (Elt F) f1) (arg2.view.read (Elt F) f2) (arg3.view.read (Elt F) f3)
                (arg4.view.read (Elt F) f4) (arg5.view.read (Elt F) f5) (arg6.view.read (Elt F) f6) (arg7.view.read (Elt F) f7) (arg8.view.read (Elt F) f8)
                (arg9.view.read (Elt F) f9)⌝ ∗ hold c arg10 g) -∗ Q ⟨⟩))
      ⊢ wp frame (wpE (defs₀ (F := F)) 𝒱₀ (SparseCore.T c) none) Set.univ
          (cc1_body (F := F) i arg1 harg1 arg2 harg2 arg3 harg3 arg4 harg4 arg5 harg5 arg6 harg6 arg7 harg7 arg8 harg8 arg9 harg9 arg10 harg10) Q := by
  rw [cc1_body_eq_skeleton]
  unfold cc1_body_skel
  rw [k1_part1_eq_skeleton]
  unfold k1_part1_skel
  iintro ⟨H1, H2, H3, H4, H5, H6, H7, H8, H9, H10, Hk⟩
  sl_exec!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _
  isplitr; swap
  · iexact H10
  ipureintro
  sl_unfold_words
  rw [View.read_writes_full]
  simp only [View.readAt_eq_ld, View.ld_unit_zero (S := S1024x128) zero_off, View.ld_unit_zero (S := S128x128) zero_off, View.ld_unit_zero (S := S1x128) zero_off,
    View.ld_unit_zero (S := S1x1) zero_off]
  rfl

end Cert.Rows

end
-- ==== Proof.Region.lean ====
/-
  A dense call as the program's main thread meets it: between two SparseCore calls, with the arrays of the device held at
  some contents, and still owing the SparseCores the starts of the calls to come. The call's own waits are of the lowest
  level, so what the thread may wait for afterwards is what it might wait for before.
-/
module

public import proofs.«01_k».proof.Proof.Dense
public import Idealize.ShloMosaic.Lib.Pipeline.RegionArraysS

@[expose] public section

noncomputable section

namespace Cert.Rows

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)
open Idealize.ShloMosaic.Pipeline (Dat)

variable {F : FTy → Type} [FloatOps F] [Named F]

local notation "𝕄" => MT nD τ sig (HIx 2) (Elt F) ℕ UU ℕ

/-- No dense call takes a table ahead of its run. -/
abbrev adm : (p : Fin 2) → (pcfgs (F := F) p).Adm := fun p => (cfgs p).toPCfg_adm

/-- The waits the main thread may have made before SparseCore call `n`. -/
def seen (c : Dev nD) (n : ℕ) : Set (SemLoc sig × HIx 2) := {p | (K (F := F)).lev (SparseCore.T c, p.1) p.2 ≤ 8 * n}

/-- The main thread before SparseCore call `n` owes nothing at the lowest level. -/
theorem owes_none (c : Dev nD) (n : ℕ) (g : GSem nD τ sig) : (K (F := F)).Otc c n g none = 0 := by
  by_contra h
  have := (K (F := F)).lev_of_Otc_pos (Nat.pos_of_ne_zero h)
  rw [SparseCore.Cfg.lev_none] at this
  omega

/-- What the main thread owes before call `n`, its waits so far among `seen`. -/
abbrev debt (c : Dev nD) (n : ℕ) : sProp 𝕄 :=
  iprop(∃ W, ⌜(K (F := F)).WBelow (SparseCore.T c) W (8 * n)⌝ ∗ owes (SparseCore.T c) ((K (F := F)).Otc c n) W)

/-- A dense call's record, over all arrays of the device: entered with them at `V` before SparseCore call `n`, left with
    them at the contents the call's data names. -/
def region (pd : (p : Fin 2) → (c : Dev nD) → Dat τ (Elt F) (HIx 2) ℕ UU ℕ (Pipeline.pin (pcfgs (F := F)) adm p) c) (p : Fin 2) (n : ℕ)
    (V : Dev nD → Valuation τ sig (Elt F)) (kit : Pipeline.PLaunchFacts (nD := nD) (τ := τ) (pcfgs (F := F)) p) (hK : (pcfgs (F := F) p).pre.K = 0)
    (hbody : ∀ c, Pipeline.BodyObligationLoose (pd p c) (defs₀ (F := F)) 𝒱₀ (none : HIx 2) Set.univ)
    (howed : ∀ c t, (pd p c).owed t = (K (F := F)).Otc c n) (hrec : ∀ c t, (pd p c).recorded t = seen (F := F) c n)
    (hshare : ∀ c w, (pd p c).share w = fullShare)
    (hΦ : ∀ c t, (pd p c).Φ t = Pipeline.scopedRest (Pipeline.pin (pcfgs (F := F)) adm p).spec c)
    (hV : ∀ c w, (pd p c).arrAt w 0 = V c (Proc.devRef .tc (Pipeline.arrRef (Pipeline.pin (pcfgs (F := F)) adm p).spec w))) :
    Pipeline.RegionSeg (pcfgs (F := F)) adm pd (none : HIx 2) (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_intro _ pd none p c fun w s t => by
    rw [howed c t]; exact (K (F := F)).mayWait_none _ (owes_none c n)
  pre c := iprop(StableHlo.held (SparseCore.T c) (Pipeline.ucRefs τ sig) (V c) ∗ debt c n)
  post c := iprop(StableHlo.held (SparseCore.T c) (Pipeline.ucRefs τ sig) (Pipeline.afterRegion (pd p c) (V c)) ∗ debt c n)
  X _ := iprop(emp)
  Y _ := iprop(emp)
  Z c := StableHlo.held (SparseCore.T c) (Pipeline.ucRefs τ sig \ Pipeline.arrRefs (pcfgs (F := F) p).spec) (V c)
  hentry c := by
    rw [Pipeline.ownSems0_none, Pipeline.prefHeld_of_none _ hK, Pipeline.arrays_held (pcfgs (F := F)) adm pd p kit c (hshare c) ((pd p c).arrAt · 0) (V c) (hV c),
      StableHlo.held_sub_split (SparseCore.T c) (Pipeline.arrRefs_sub_ucRefs (pcfgs (F := F) p).spec kit.win.arr_unscoped) (V c)]
    iintro ⟨⟨⟨Ha, Hu⟩, HO⟩, -, -⟩
    imodintro
    isplitl [Ha]; · iexact Ha
    isplitr; · iempintro
    isplitl [HO]
    · unfold Pipeline.Dat.owesAt Pipeline.owesWithin Pipeline.Dat.bound
      rw [howed c 0, hrec c 0]
      icases HO with ⟨%W, %hW, HO⟩; iexists W; isplitr; · ipureintro; exact fun p hp => Or.inl (hW p hp)
      iexact HO
    isplitr; · iempintro
    iexact Hu
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    rw [Pipeline.arrays_held (pcfgs (F := F)) adm pd p kit c (hshare c) ((pd p c).arrAt · _) (Pipeline.afterRegion (pd p c) (V c))
        (fun w => (Pipeline.afterRegion_arr (pd p c) (V c) kit.win.arr_inj w).symm),
      StableHlo.held_sub_split (SparseCore.T c) (Pipeline.arrRefs_sub_ucRefs (pcfgs (F := F) p).spec kit.win.arr_unscoped) (Pipeline.afterRegion (pd p c) (V c)),
      StableHlo.held_congr (SparseCore.T c) (S := Pipeline.ucRefs τ sig \ Pipeline.arrRefs (pcfgs (F := F) p).spec)
        (V := Pipeline.afterRegion (pd p c) (V c)) (V' := V c) (Pipeline.afterRegion_off (pd p c) (V c) (Pipeline.ucRefs τ sig))]
    iintro ⟨Ha, HO, -, Hu⟩
    imodintro
    isplitl [Ha Hu]
    · isplitl [Ha]; · iexact Ha
      iexact Hu
    unfold Pipeline.Dat.owesAt Pipeline.owesWithin Pipeline.Dat.bound
    rw [howed c (Fin.last _), hrec c (Fin.last _)]
    icases HO with ⟨%W, %hW, HO⟩; iexists W; isplitr
    · ipureintro
      intro p hp
      rcases hW hp with h | ⟨w, s, rfl⟩
      · exact h
      · exact Nat.zero_le _
    iexact HO

end Cert.Rows

end
-- ==== Proof.DenseCall.lean ====
/-
  The two dense calls' data: what each of their windows holds after every block, from the contents of the device's arrays
  when the call is entered. A window that is read holds its block of its array; the written one the block's results.
-/
module

public import proofs.«01_k».proof.Proof.Region
public import Idealize.ShloMosaic.Lib.Pipeline.FrameBody

@[expose] public section

noncomputable section

namespace Cert.Rows

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)
open Idealize.ShloMosaic.Pipeline (Dat)

variable {F : FTy → Type} [FloatOps F] [Named F]

local notation "𝕄" => MT nD τ sig (HIx 2) (Elt F) ℕ UU ℕ

/-- A block's run over what its ten buffers read: the first nine are left as they were, the tenth at the block's results. -/
theorem wp_block (c : Dev nD) (i : grid1.Coords)
    (arg1 : Memref sig .tc .vmem S1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x1 .f32) (harg9 : arg9.IsWhole) (arg10 : Memref sig .tc .vmem S1x1024 .f32) (harg10 : arg10.IsWhole)
    (X1 X2 X3 X4 X5 X6 X7 X8 X9 X10) (Q : PUnit → sProp 𝕄) :
    iprop(owns (SparseCore.T c) arg1 fullShare X1 ∗ owns (SparseCore.T c) arg2 fullShare X2 ∗ owns (SparseCore.T c) arg3 fullShare X3
        ∗ owns (SparseCore.T c) arg4 fullShare X4 ∗ owns (SparseCore.T c) arg5 fullShare X5 ∗ owns (SparseCore.T c) arg6 fullShare X6
        ∗ owns (SparseCore.T c) arg7 fullShare X7 ∗ owns (SparseCore.T c) arg8 fullShare X8 ∗ owns (SparseCore.T c) arg9 fullShare X9
        ∗ owns (SparseCore.T c) arg10 fullShare X10
        ∗ (iprop(owns (SparseCore.T c) arg1 fullShare X1 ∗ owns (SparseCore.T c) arg2 fullShare X2 ∗ owns (SparseCore.T c) arg3 fullShare X3
          ∗ owns (SparseCore.T c) arg4 fullShare X4 ∗ owns (SparseCore.T c) arg5 fullShare X5 ∗ owns (SparseCore.T c) arg6 fullShare X6
          ∗ owns (SparseCore.T c) arg7 fullShare X7 ∗ owns (SparseCore.T c) arg8 fullShare X8 ∗ owns (SparseCore.T c) arg9 fullShare X9
          ∗ owns (SparseCore.T c) arg10 fullShare (dense X1 X2 X3 X4 X5 X6 X7 X8 X9)) -∗ Q ⟨⟩))
      ⊢ (wp frame (wpE (defs₀ (F := F)) 𝒱₀ (SparseCore.T c) none) Set.univ
          (cc1_body (F := F) i arg1 harg1 arg2 harg2 arg3 harg3 arg4 harg4 arg5 harg5 arg6 harg6 arg7 harg7 arg8 harg8 arg9 harg9 arg10 harg10) Q : sProp 𝕄) := by
  unfold owns
  simp only [harg1.set_eq_univ, harg2.set_eq_univ, harg3.set_eq_univ, harg4.set_eq_univ, harg5.set_eq_univ, harg6.set_eq_univ, harg7.set_eq_univ,
    harg8.set_eq_univ, harg9.set_eq_univ, harg10.set_eq_univ]
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩,
    ⟨%f9, %h9, H9⟩, ⟨%f10, -, H10⟩, Hk⟩
  iapply (wp_dense c i arg1 harg1 arg2 harg2 arg3 harg3 arg4 harg4 arg5 harg5 arg6 harg6 arg7 harg7 arg8 harg8 arg9 harg9 arg10 harg10
    f1 f2 f3 f4 f5 f6 f7 f8 f9 f10 Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, ⟨%g, %hg, H10⟩⟩
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · iexists f8; isplitr; · ipureintro; exact h8
                  iexact H8
  isplitl [H9]; · iexists f9; isplitr; · ipureintro; exact h9
                  iexact H9
  iexists g
  isplitr
  · ipureintro; rw [hg, h1, h2, h3, h4, h5, h6, h7, h8, h9]
  iexact H10

/-! ## The first dense call -/

/-- Window `w`'s block at point `t` in the first dense call, its array at `V`. -/
abbrev blk1 (V : Valuation τ sig (Elt F)) (w : Fin 10) (t : Fin cfg1.N) : ((cfg1.win w).xblock (cfg1.grid.coords t)).Idx → Elt F (cfg1.win w).elt :=
  ((cfg1.win w).blk t).view.read (Elt F) (V (Proc.devRef .tc (Pipeline.arrRef spec1 w)))

/-- The results at point `t` of the first dense call. -/
def out1 (V : Valuation τ sig (Elt F)) (t : Fin cfg1.N) : S1x1024.Idx → Elt F .f32 :=
  dense (blk1 V 0 t) (blk1 V 1 t) (blk1 V 2 t) (blk1 V 3 t) (blk1 V 4 t) (blk1 V 5 t) (blk1 V 6 t) (blk1 V 7 t) (blk1 V 8 t)

/-- The first dense call's data, entered before SparseCore call `n` with the arrays at `V`. -/
def dat1 (n : ℕ) (V : Valuation τ sig (Elt F)) (c : Dev nD) : Dat τ (Elt F) (HIx 2) ℕ UU ℕ cfg1 c where
  A w := V (Proc.devRef .tc (Pipeline.arrRef spec1 w))
  after w t := match w with
    | ⟨0, _⟩ => blk1 V 0 t
    | ⟨1, _⟩ => blk1 V 1 t
    | ⟨2, _⟩ => blk1 V 2 t
    | ⟨3, _⟩ => blk1 V 3 t
    | ⟨4, _⟩ => blk1 V 4 t
    | ⟨5, _⟩ => blk1 V 5 t
    | ⟨6, _⟩ => blk1 V 6 t
    | ⟨7, _⟩ => blk1 V 7 t
    | ⟨8, _⟩ => blk1 V 8 t
    | ⟨9, _⟩ => out1 V t
  Φ _ := Pipeline.scopedRest (Pipeline.pin (pcfgs (F := F)) adm 0).spec c
  q _ := fullShare
  owed _ := (K (F := F)).Otc c n
  recorded _ := seen (F := F) c n

/-- The first dense call's body takes its windows from what they hold before a block to what they hold after it. -/
theorem body1 (n : ℕ) (V : Valuation τ sig (Elt F)) (c : Dev nD) : Pipeline.BodyObligation (dat1 n V c) (defs₀ (F := F)) 𝒱₀ (none : HIx 2) Set.univ := fun t => by
  rw [bigSep_W1, bigSep_W1]
  have keep (w : Fin cfg1.W) (hw : (cfg1.win w).isOut = false)
      (hclip : ∀ u u' : Fin cfg1.N, (cfg1.win w).index u = (cfg1.win w).index u' → (cfg1.win w).clip (cfg1.grid.coords u) = (cfg1.win w).clip (cfg1.grid.coords u'))
      (hkeep : ∀ u, (cfg1.win w).cut (cfg1.grid.coords u) ((dat1 n V c).after w u) = (dat1 n V c).blockOf w u) (d) :=
    (dat1 n V c).before_in_eq_fetched w hw (fun _ => rfl) hclip hkeep t d
  simp only [keep 0 rfl (fun _ _ _ => rfl) (fun _ => rfl), keep 1 rfl (fun _ _ _ => rfl) (fun _ => rfl), keep 2 rfl (fun _ _ _ => rfl) (fun _ => rfl),
    keep 3 rfl (fun _ _ _ => rfl) (fun _ => rfl), keep 4 rfl (fun _ _ _ => rfl) (fun _ => rfl), keep 5 rfl (fun _ _ _ => rfl) (fun _ => rfl),
    keep 6 rfl (fun _ _ _ => rfl) (fun _ => rfl), keep 7 rfl (fun _ _ _ => rfl) (fun _ => rfl), keep 8 rfl (fun _ _ _ => rfl) (fun _ => rfl)]
  rw [show (dat1 n V c).Φ t.castSucc = (dat1 n V c).Φ t.succ from rfl,
    show (dat1 n V c).owesAt none t.succ = (dat1 n V c).owesAt none t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_block c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7))
    (st1_8 t) (hstage1_8 ((cfg1.slots t 8).cast nbuf1_8)) (st1_9 t) (hstage1_9 ((cfg1.slots t 9).cast nbuf1_9))
    (blk1 V 0 t) (blk1 V 1 t) (blk1 V 2 t) (blk1 V 3 t) (blk1 V 4 t) (blk1 V 5 t) (blk1 V 6 t) (blk1 V 7 t) (blk1 V 8 t) ((dat1 n V c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The second dense call -/

/-- Window `w`'s block at point `t` in the second dense call, its array at `V`. -/
abbrev blk3 (V : Valuation τ sig (Elt F)) (w : Fin 10) (t : Fin cfg3.N) : ((cfg3.win w).xblock (cfg3.grid.coords t)).Idx → Elt F (cfg3.win w).elt :=
  ((cfg3.win w).blk t).view.read (Elt F) (V (Proc.devRef .tc (Pipeline.arrRef spec3 w)))

/-- The results at point `t` of the second dense call. -/
def out3 (V : Valuation τ sig (Elt F)) (t : Fin cfg3.N) : S1x1024.Idx → Elt F .f32 :=
  dense (blk3 V 0 t) (blk3 V 1 t) (blk3 V 2 t) (blk3 V 3 t) (blk3 V 4 t) (blk3 V 5 t) (blk3 V 6 t) (blk3 V 7 t) (blk3 V 8 t)

/-- The second dense call's data, entered before SparseCore call `n` with the arrays at `V`. -/
def dat3 (n : ℕ) (V : Valuation τ sig (Elt F)) (c : Dev nD) : Dat τ (Elt F) (HIx 2) ℕ UU ℕ cfg3 c where
  A w := V (Proc.devRef .tc (Pipeline.arrRef spec3 w))
  after w t := match w with
    | ⟨0, _⟩ => blk3 V 0 t
    | ⟨1, _⟩ => blk3 V 1 t
    | ⟨2, _⟩ => blk3 V 2 t
    | ⟨3, _⟩ => blk3 V 3 t
    | ⟨4, _⟩ => blk3 V 4 t
    | ⟨5, _⟩ => blk3 V 5 t
    | ⟨6, _⟩ => blk3 V 6 t
    | ⟨7, _⟩ => blk3 V 7 t
    | ⟨8, _⟩ => blk3 V 8 t
    | ⟨9, _⟩ => out3 V t
  Φ _ := Pipeline.scopedRest (Pipeline.pin (pcfgs (F := F)) adm 1).spec c
  q _ := fullShare
  owed _ := (K (F := F)).Otc c n
  recorded _ := seen (F := F) c n

/-- The second dense call's body takes its windows from what they hold before a block to what they hold after it. -/
theorem body3 (n : ℕ) (V : Valuation τ sig (Elt F)) (c : Dev nD) : Pipeline.BodyObligation (dat3 n V c) (defs₀ (F := F)) 𝒱₀ (none : HIx 2) Set.univ := fun t => by
  rw [bigSep_W3, bigSep_W3]
  have keep (w : Fin cfg3.W) (hw : (cfg3.win w).isOut = false)
      (hclip : ∀ u u' : Fin cfg3.N, (cfg3.win w).index u = (cfg3.win w).index u' → (cfg3.win w).clip (cfg3.grid.coords u) = (cfg3.win w).clip (cfg3.grid.coords u'))
      (hkeep : ∀ u, (cfg3.win w).cut (cfg3.grid.coords u) ((dat3 n V c).after w u) = (dat3 n V c).blockOf w u) (d) :=
    (dat3 n V c).before_in_eq_fetched w hw (fun _ => rfl) hclip hkeep t d
  simp only [keep 0 rfl (fun _ _ _ => rfl) (fun _ => rfl), keep 1 rfl (fun _ _ _ => rfl) (fun _ => rfl), keep 2 rfl (fun _ _ _ => rfl) (fun _ => rfl),
    keep 3 rfl (fun _ _ _ => rfl) (fun _ => rfl), keep 4 rfl (fun _ _ _ => rfl) (fun _ => rfl), keep 5 rfl (fun _ _ _ => rfl) (fun _ => rfl),
    keep 6 rfl (fun _ _ _ => rfl) (fun _ => rfl), keep 7 rfl (fun _ _ _ => rfl) (fun _ => rfl), keep 8 rfl (fun _ _ _ => rfl) (fun _ => rfl)]
  rw [show (dat3 n V c).Φ t.castSucc = (dat3 n V c).Φ t.succ from rfl,
    show (dat3 n V c).owesAt none t.succ = (dat3 n V c).owesAt none t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [show defs₀ (F := F) .tc cfg3.body (cfg3.bodyArgs t (cfg3.slots t)) = bodyAt3 t from rfl, show bodyAt3 (F := F) t = cc1_body (F := F) (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6)) (st3_7 t) (hstage3_7 ((cfg3.slots t 7).cast nbuf3_7)) (st3_8 t) (hstage3_8 ((cfg3.slots t 8).cast nbuf3_8)) (st3_9 t) (hstage3_9 ((cfg3.slots t 9).cast nbuf3_9)) from rfl]
  iapply (wp_block c (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3))
    (st3_4 t) (hstage3_4 ((cfg3.slots t 4).cast nbuf3_4)) (st3_5 t) (hstage3_5 ((cfg3.slots t 5).cast nbuf3_5)) (st3_6 t) (hstage3_6 ((cfg3.slots t 6).cast nbuf3_6)) (st3_7 t) (hstage3_7 ((cfg3.slots t 7).cast nbuf3_7))
    (st3_8 t) (hstage3_8 ((cfg3.slots t 8).cast nbuf3_8)) (st3_9 t) (hstage3_9 ((cfg3.slots t 9).cast nbuf3_9))
    (blk3 V 0 t) (blk3 V 1 t) (blk3 V 2 t) (blk3 V 3 t) (blk3 V 4 t) (blk3 V 5 t) (blk3 V 6 t) (blk3 V 7 t) (blk3 V 8 t) ((dat3 n V c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The two together -/

/-- The data of the two dense calls, the arrays at `V 0` when the first is entered and at `V 1` when the second is. -/
def pd (V : Fin 2 → Dev nD → Valuation τ sig (Elt F)) :
    (p : Fin 2) → (c : Dev nD) → Dat τ (Elt F) (HIx 2) ℕ UU ℕ (Pipeline.pin (pcfgs (F := F)) adm p) c
  | ⟨0, _⟩ => fun c => dat1 1 (V 0 c) c
  | ⟨1, _⟩ => fun c => dat3 2 (V 1 c) c

/-- The first dense call's body is as its data has it. -/
theorem loose0 (V : Fin 2 → Dev nD → Valuation τ sig (Elt F)) (c : Dev nD) :
    Pipeline.BodyObligationLoose (pd V 0 c) (defs₀ (F := F)) 𝒱₀ (none : HIx 2) Set.univ :=
  Pipeline.BodyObligation.loose (dat := dat1 1 (V 0 c) c) (body1 1 (V 0 c) c)

/-- So is the second's. -/
theorem loose1 (V : Fin 2 → Dev nD → Valuation τ sig (Elt F)) (c : Dev nD) :
    Pipeline.BodyObligationLoose (pd V 1 c) (defs₀ (F := F)) 𝒱₀ (none : HIx 2) Set.univ :=
  Pipeline.BodyObligation.loose (dat := dat3 2 (V 1 c) c) (body3 2 (V 1 c) c)

/-- Between its blocks a dense call keeps only what is not its own. -/
theorem phi0 (V : Fin 2 → Dev nD → Valuation τ sig (Elt F)) (c : Dev nD) (t) : (pd V 0 c).Φ t = Pipeline.scopedRest (Pipeline.pin (pcfgs (F := F)) adm 0).spec c := by
  show (dat1 1 (V 0 c) c).Φ t = _
  dsimp only [dat1]

/-- It finds its arrays at the contents it is entered with. -/
theorem arr0 (V : Fin 2 → Dev nD → Valuation τ sig (Elt F)) (c : Dev nD) (w) :
    (pd V 0 c).arrAt w 0 = V 0 c (Proc.devRef .tc (Pipeline.arrRef (Pipeline.pin (pcfgs (F := F)) adm 0).spec w)) := by
  show (dat1 1 (V 0 c) c).A w = _
  dsimp only [dat1]
  rfl

/-- Between its blocks a dense call keeps only what is not its own. -/
theorem phi1 (V : Fin 2 → Dev nD → Valuation τ sig (Elt F)) (c : Dev nD) (t) : (pd V 1 c).Φ t = Pipeline.scopedRest (Pipeline.pin (pcfgs (F := F)) adm 1).spec c := by
  show (dat3 2 (V 1 c) c).Φ t = _
  dsimp only [dat3]

/-- It finds its arrays at the contents it is entered with. -/
theorem arr1 (V : Fin 2 → Dev nD → Valuation τ sig (Elt F)) (c : Dev nD) (w) :
    (pd V 1 c).arrAt w 0 = V 1 c (Proc.devRef .tc (Pipeline.arrRef (Pipeline.pin (pcfgs (F := F)) adm 1).spec w)) := by
  show (dat3 2 (V 1 c) c).A w = _
  dsimp only [dat3]
  rfl

/-- The first dense call's record. -/
def region0 (V : Fin 2 → Dev nD → Valuation τ sig (Elt F)) :
    Pipeline.RegionSeg (pcfgs (F := F)) adm (pd V) (none : HIx 2) (defs₀ (F := F)) 𝒱₀ (K (F := F)).L (K (F := F)).lev 0 :=
  region (pd V) 0 1 (V 0) launch1.toP rfl (fun c => loose0 V c) (fun _ _ => rfl) (fun _ _ => rfl)
    (fun c => (dat1 1 (V 0 c) c).share_full fun _ => rfl) (phi0 V) (arr0 V)

/-- The second dense call's record. -/
def region1 (V : Fin 2 → Dev nD → Valuation τ sig (Elt F)) :
    Pipeline.RegionSeg (pcfgs (F := F)) adm (pd V) (none : HIx 2) (defs₀ (F := F)) 𝒱₀ (K (F := F)).L (K (F := F)).lev 1 :=
  region (pd V) 1 2 (V 1) launch3.toP rfl (fun c => loose1 V c) (fun _ _ => rfl) (fun _ _ => rfl)
    (fun c => (dat3 2 (V 1 c) c).share_full fun _ => rfl) (phi1 V) (arr1 V)

end Cert.Rows

end
-- ==== Proof.Host.lean ====
/-
  What the main thread does between the calls: its host operations, and the contents of the device's arrays at each call, in
  order. The contents before the two SparseCore calls and the two dense calls, and at the end, are given names.
-/
module

public import proofs.«01_k».proof.Proof.DenseCall
public import Idealize.ShloMosaic.Lib.StableHlo.RunRead

@[expose] public section

noncomputable section

namespace Cert.Rows

open Cert.KernelIdeal Cert.KernelIdeal.Gen
open Idealize.ShloMosaic
open Idealize.ShloMosaic.StableHlo (after seq)
open Idealize.SL.Sem
open Idealize.ShloMosaic.SparseCore.Cfg (HIx)

variable {F : FTy → Type} [FloatOps F] [Named F]

/-- Before the first SparseCore call: the two columns of row numbers, the two halves of the first weight, the other weights as
    rows, the first half of each column. -/
def host1 : List (HloOp τ sig (Elt F)) :=
  [StableHlo.unary main_arg0 main_v0 ((extractStridedSlice S16384x1 ![0, 0] · slices_S16384x2_S16384x1_0_0) : (⟨S16384x2, .i32⟩ : BufTy).Contents (Elt F) → (⟨S16384x1, .i32⟩ : BufTy).Contents (Elt F)),
   StableHlo.reshape main_v0 main_v1 (rfl : (.i32 : EltTy) = .i32) shapeCasts_S16384x1_S16384,
   StableHlo.reshape main_v1 main_v2 (rfl : (.i32 : EltTy) = .i32) shapeCasts_S16384_S2x32x2x128,
   StableHlo.unary main_arg0 main_v3 ((extractStridedSlice S16384x1 ![0, 1] · slices_S16384x2_S16384x1_0_1) : (⟨S16384x2, .i32⟩ : BufTy).Contents (Elt F) → (⟨S16384x1, .i32⟩ : BufTy).Contents (Elt F)),
   StableHlo.reshape main_v3 main_v4 (rfl : (.i32 : EltTy) = .i32) shapeCasts_S16384x1_S16384,
   StableHlo.reshape main_v4 main_v5 (rfl : (.i32 : EltTy) = .i32) shapeCasts_S16384_S2x32x2x128,
   StableHlo.unary main_arg3 main_v6 ((extractStridedSlice S128x128 ![0, 0] · slices_S256x128_S128x128_0_0) : (⟨S256x128, .f32⟩ : BufTy).Contents (Elt F) → (⟨S128x128, .f32⟩ : BufTy).Contents (Elt F)),
   StableHlo.unary main_arg3 main_v7 ((extractStridedSlice S128x128 ![128, 0] · slices_S256x128_S128x128_128_0) : (⟨S256x128, .f32⟩ : BufTy).Contents (Elt F) → (⟨S128x128, .f32⟩ : BufTy).Contents (Elt F)),
   StableHlo.reshape main_arg4 main_v8 (rfl : (.f32 : EltTy) = .f32) shapeCasts_S128_S1x128,
   StableHlo.reshape main_arg6 main_v9 (rfl : (.f32 : EltTy) = .f32) shapeCasts_S128_S1x128,
   StableHlo.reshape main_arg7 main_v10 (rfl : (.f32 : EltTy) = .f32) shapeCasts_S128x1_S1x128,
   StableHlo.reshape main_arg8 main_v11 (rfl : (.f32 : EltTy) = .f32) shapeCasts_S1_S1x1,
   StableHlo.unary main_v2 main_v12 ((extractStridedSlice S1x32x2x128 ![0, 0, 0, 0] · slices_S2x32x2x128_S1x32x2x128_0_0_0_0) : (⟨S2x32x2x128, .i32⟩ : BufTy).Contents (Elt F) → (⟨S1x32x2x128, .i32⟩ : BufTy).Contents (Elt F)),
   StableHlo.reshape main_v12 main_v13 (rfl : (.i32 : EltTy) = .i32) shapeCasts_S1x32x2x128_S32x2x128,
   StableHlo.unary main_v5 main_v14 ((extractStridedSlice S1x32x2x128 ![0, 0, 0, 0] · slices_S2x32x2x128_S1x32x2x128_0_0_0_0) : (⟨S2x32x2x128, .i32⟩ : BufTy).Contents (Elt F) → (⟨S1x32x2x128, .i32⟩ : BufTy).Contents (Elt F)),
   StableHlo.reshape main_v14 main_v15 (rfl : (.i32 : EltTy) = .i32) shapeCasts_S1x32x2x128_S32x2x128]

/-- Between the first dense call and the second SparseCore call: the second half of each column. -/
def host2 : List (HloOp τ sig (Elt F)) :=
  [StableHlo.unary main_v2 main_v18 ((extractStridedSlice S1x32x2x128 ![1, 0, 0, 0] · slices_S2x32x2x128_S1x32x2x128_1_0_0_0) : (⟨S2x32x2x128, .i32⟩ : BufTy).Contents (Elt F) → (⟨S1x32x2x128, .i32⟩ : BufTy).Contents (Elt F)),
   StableHlo.reshape main_v18 main_v19 (rfl : (.i32 : EltTy) = .i32) shapeCasts_S1x32x2x128_S32x2x128,
   StableHlo.unary main_v5 main_v20 ((extractStridedSlice S1x32x2x128 ![1, 0, 0, 0] · slices_S2x32x2x128_S1x32x2x128_1_0_0_0) : (⟨S2x32x2x128, .i32⟩ : BufTy).Contents (Elt F) → (⟨S1x32x2x128, .i32⟩ : BufTy).Contents (Elt F)),
   StableHlo.reshape main_v20 main_v21 (rfl : (.i32 : EltTy) = .i32) shapeCasts_S1x32x2x128_S32x2x128]

/-- After the second dense call: the two halves of the result put together. -/
def host3 : List (HloOp τ sig (Elt F)) :=
  [StableHlo.binary main_v17 main_v23 main_v24 ((fun a b => concatenate S1x16384 1 [⟨S1x8192, a⟩, ⟨S1x8192, b⟩] concatenates_S1x8192_S1x8192_S1x16384_d1) : (⟨S1x8192, .f32⟩ : BufTy).Contents (Elt F) → (⟨S1x8192, .f32⟩ : BufTy).Contents (Elt F) → (⟨S1x16384, .f32⟩ : BufTy).Contents (Elt F)),
   StableHlo.reshape main_v24 main_v25 (rfl : (.f32 : EltTy) = .f32) shapeCasts_S1x16384_S16384x1]

/-- The main thread is the host operations and the four calls. -/
theorem main_eq (d : Dev nD) : main (F := F) d = (do
    seq host1
    K.run d 0
    Prog.lift (.customCall (SparseCore.inner (Pipeline.entry 0)) ())
    seq host2
    K.run d 1
    Prog.lift (.customCall (SparseCore.inner (Pipeline.entry 1)) ())
    seq host3
    pure ⟨⟩) := by
  simp only [main, host1, host2, host3, seq, bind_assoc, pure_bind]

variable (m : (ℓ : Loc nD τ sig) → Buf (Elt F) ℓ) (d : Dev nD)

/-- At the first SparseCore call, -/
def V1 : Valuation τ sig (Elt F) := after host1 (StableHlo.launchContents m d)
/-- at the first dense call, -/
def V2 : Valuation τ sig (Elt F) := called 0 (V1 m d)
/-- after it, -/
def V3 : Valuation τ sig (Elt F) := Pipeline.afterRegion (dat1 1 (V2 m d) d) (V2 m d)
/-- at the second SparseCore call, -/
def V4 : Valuation τ sig (Elt F) := after host2 (V3 m d)
/-- at the second dense call, -/
def V5 : Valuation τ sig (Elt F) := called 1 (V4 m d)
/-- after it, -/
def V6 : Valuation τ sig (Elt F) := Pipeline.afterRegion (dat3 2 (V5 m d) d) (V5 m d)
/-- and at the end. -/
def V7 : Valuation τ sig (Elt F) := after host3 (V6 m d)

/-- The contents at the two SparseCore calls. -/
def atCall : Fin 2 → Dev nD → Valuation τ sig (Elt F)
  | 0 => V1 m
  | 1 => V4 m

/-- The contents at the two dense calls. -/
def atDense : Fin 2 → Dev nD → Valuation τ sig (Elt F)
  | 0 => V2 m
  | 1 => V5 m

theorem sub1 : ∀ op ∈ host1 (F := F), op.bufs ⊆ Pipeline.ucRefs τ sig := fun op h => Pipeline.sub_ucRefs op (by
  revert op
  simp only [host1, List.forall_mem_cons, StableHlo.unary_bufs_sub, StableHlo.reshape_bufs_sub, StableHlo.binary_bufs_sub, true_and, and_true]
  exact fun _ h => nomatch h)
theorem sub2 : ∀ op ∈ host2 (F := F), op.bufs ⊆ Pipeline.ucRefs τ sig := fun op h => Pipeline.sub_ucRefs op (by
  revert op
  simp only [host2, List.forall_mem_cons, StableHlo.unary_bufs_sub, StableHlo.reshape_bufs_sub, StableHlo.binary_bufs_sub, true_and, and_true]
  exact fun _ h => nomatch h)
theorem sub3 : ∀ op ∈ host3 (F := F), op.bufs ⊆ Pipeline.ucRefs τ sig := fun op h => Pipeline.sub_ucRefs op (by
  revert op
  simp only [host3, List.forall_mem_cons, StableHlo.unary_bufs_sub, StableHlo.reshape_bufs_sub, StableHlo.binary_bufs_sub, true_and, and_true]
  exact fun _ h => nomatch h)

theorem fresh1 : ∀ op ∈ host1 (F := F), op.fresh = ∅ := by
  simp only [host1, List.forall_mem_cons]; exact ⟨rfl, rfl, rfl, rfl, rfl, rfl, rfl, rfl, rfl, rfl, rfl, rfl, rfl, rfl, rfl, rfl, fun _ h => nomatch h⟩
theorem fresh2 : ∀ op ∈ host2 (F := F), op.fresh = ∅ := by
  simp only [host2, List.forall_mem_cons]; exact ⟨rfl, rfl, rfl, rfl, fun _ h => nomatch h⟩
theorem fresh3 : ∀ op ∈ host3 (F := F), op.fresh = ∅ := by
  simp only [host3, List.forall_mem_cons]; exact ⟨rfl, rfl, fun _ h => nomatch h⟩

end Cert.Rows

end
-- ==== Proof.MainRun.lean ====
/-
  The whole program's run, at any float values: the main thread through its host operations and its four calls, and from it
  the program's. When it ends every array of the device holds what `V7` gives it.
-/
module

public import proofs.«01_k».proof.Proof.Host

@[expose] public section

noncomputable section

namespace Cert.Rows

open Cert.KernelIdeal Cert.KernelIdeal.Gen
open Idealize.ShloMosaic
open Idealize.ShloMosaic.StableHlo (after seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat)

variable {F : FTy → Type} [FloatOps F] [Named F]

local notation "𝕄" => MT nD τ sig (HIx 2) (Elt F) ℕ UU ℕ

/-- The main thread at the arrays `V`. -/
abbrev arrays (d : Dev nD) (V : Valuation τ sig (Elt F)) : sProp 𝕄 := StableHlo.held (SparseCore.T d) (Pipeline.ucRefs τ sig) V

/-! ## The ghost state of the dense calls -/

/-- What dense call `p` is started with. -/
abbrev ghost (p : Fin 2) (d : Dev nD) : sProp 𝕄 :=
  iprop(Pipeline.cellsGhost (Pipeline.pin (pcfgs (F := F)) adm) EP p d ∗ Pipeline.toksInit (Pipeline.pin (pcfgs (F := F)) adm) EP p d)

theorem cells_inj : Function.Injective (Pipeline.cellOf (nD := nD) (τ := τ) (Pipeline.pin (pcfgs (F := F)) adm)) := cellOf_inj

/-- What the launch owns of the calls' ghost state: the SparseCore calls' and the dense calls'. -/
def u₀ : UU :=
  ((initOf (K (F := F)).hsCells (K (F := F)).hsToks,
    initOf (Pipeline.cells (Pipeline.pin (pcfgs (F := F)) adm) cells_inj) (Pipeline.launchToks (Pipeline.pin (pcfgs (F := F)) adm) cells_inj)), 1)

/-- The dense calls' ghost state, dealt by device. -/
theorem deal_ghost :
    iprop((bigSep Finset.univ fun d : Dev nD => bigSep Finset.univ fun p => Pipeline.cellsGhost (Pipeline.pin (pcfgs (F := F)) adm) EP p d)
        ∗ bigSep Finset.univ fun d : Dev nD => bigSep Finset.univ fun p => Pipeline.toksInit (Pipeline.pin (pcfgs (F := F)) adm) EP p d)
      ⊢ (bigSep Finset.univ fun d : Dev nD => iprop(ghost (F := F) 0 d ∗ ghost 1 d) : sProp 𝕄) := by
  rw [bigSep_univ_of_subsingleton (0 : Dev nD), bigSep_univ_of_subsingleton (0 : Dev nD), bigSep_univ_of_subsingleton (0 : Dev nD), BI.bigSep_fin_two, BI.bigSep_fin_two]
  change iprop((Pipeline.cellsGhost (Pipeline.pin (pcfgs (F := F)) adm) EP 0 0 ∗ Pipeline.cellsGhost (Pipeline.pin (pcfgs (F := F)) adm) EP 1 0)
    ∗ (Pipeline.toksInit (Pipeline.pin (pcfgs (F := F)) adm) EP 0 0 ∗ Pipeline.toksInit (Pipeline.pin (pcfgs (F := F)) adm) EP 1 0)) ⊢ _
  iintro ⟨⟨Hg0, Hg1⟩, Ht0, Ht1⟩
  isplitl [Hg0 Ht0]
  · isplitl [Hg0]; · iexact Hg0
    iexact Ht0
  isplitl [Hg1]; · iexact Hg1
  iexact Ht1

/-- The launch's ghost state is the SparseCore calls' and the dense calls'. -/
theorem launch_ghost (W : Fin 2 → Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => iprop(ghost (F := F) 0 d ∗ ghost 1 d))
        ∗ bigSep Finset.univ fun thr : Thread nD τ => bigSep Finset.univ fun q : Fin 2 => (P W).x q thr) := by
  unfold u₀
  iintro Hu
  ihave H := (ownU_pair (initOf (K (F := F)).hsCells (K (F := F)).hsToks,
    initOf (Pipeline.cells (Pipeline.pin (pcfgs (F := F)) adm) cells_inj) (Pipeline.launchToks (Pipeline.pin (pcfgs (F := F)) adm) cells_inj)) (1 : Counters)) $$ Hu
  icases H with ⟨HL, -⟩
  ihave H := (own_pair_emb embL (initOf (K (F := F)).hsCells (K (F := F)).hsToks)
    (initOf (Pipeline.cells (Pipeline.pin (pcfgs (F := F)) adm) cells_inj) (Pipeline.launchToks (Pipeline.pin (pcfgs (F := F)) adm) cells_inj))) $$ HL
  icases H with ⟨HH, HP⟩
  imod (Pipeline.fund_ghost (Pipeline.pin (pcfgs (F := F)) adm) EP cells_inj) $$ HP with ⟨Hg, Ht⟩
  imodintro
  isplitl [HH]; · iexact HH
  isplitl [Hg Ht]
  · iapply (deal_ghost (F := F))
    isplitl [Hg]; · iexact Hg
    iexact Ht
  rw [show (bigSep Finset.univ fun thr : Thread nD τ => bigSep Finset.univ fun q : Fin 2 => (P (F := F) W).x q thr) = iprop(emp) from
    (bigSep_congr fun _ _ => bigSep_emp_const _).trans (bigSep_emp_const _)]
  iempintro

/-! ## The calls, from the main thread -/

/-- The arrays of a SparseCore call are among the device's. -/
theorem operands_sub (q : Fin 2) : operands q ⊆ Pipeline.ucRefs τ sig := by
  match q with
  | 0 => decide
  | 1 => decide

/-- A SparseCore call takes the device's arrays from `W q d` to `called q (W q d)`. -/
theorem wp_call (W : Fin 2 → Dev nD → Valuation τ sig (Elt F)) (κ : GSem nD τ sig → ℕ) (d : Dev nD) (q : Fin 2) (Φ : PUnit → sProp 𝕄) :
    iprop((K (F := F)).ctx EH (P W) κ ∗ (K (F := F)).tcSt EH d q.val ∗ arrays d (W q d)
        ∗ ((iprop((K (F := F)).tcSt EH d (q.val + 1) ∗ arrays d (called q (W q d)))) -∗ Φ ⟨⟩))
      ⊢ wp frame (wpE ((K (F := F)).defs (D (F := F))) 𝒱 (SparseCore.T d) none) Set.univ ((K (F := F)).run d q) Φ := by
  have keep : ∀ b ∈ Pipeline.ucRefs τ sig \ operands q, called q (W q d) b = W q d b := fun b hb =>
    called_keep q (W q d) (by
      have hn := (Finset.mem_sdiff.mp hb).2
      match q with
      | 0 => exact ⟨fun e => hn (e ▸ by decide), fun e => hn (e ▸ by decide)⟩
      | 1 => exact ⟨fun e => hn (e ▸ by decide), fun e => hn (e ▸ by decide)⟩)
  unfold arrays
  rw [StableHlo.held_sub_split (SparseCore.T d) (operands_sub q) (W q d), StableHlo.held_sub_split (SparseCore.T d) (operands_sub q) (called q (W q d)),
    StableHlo.held_congr (SparseCore.T d) keep, held_operands q d (W q d), held_operands q d (called q (W q d))]
  iintro ⟨#Hctx, Hst, ⟨Ho, Hr⟩, Hk⟩
  iapply ((K (F := F)).wp_run (D (F := F)) 𝒱 (EH := EH) (P := P W) κ d q)
  isplitr; · iexact Hctx
  isplitl [Hst]; · iexact Hst
  isplitl [Ho]; · iexact Ho
  iintro ⟨Hst, Ho⟩
  iapply Hk
  isplitl [Hst]; · iexact Hst
  isplitl [Ho]; · iexact Ho
  iexact Hr

set_option backward.isDefEq.respectTransparency.types false in
/-- A dense call takes its record's first state to its last. -/
theorem wp_region (pd : (p : Fin 2) → (c : Dev nD) → Dat τ (Elt F) (HIx 2) ℕ UU ℕ (Pipeline.pin (pcfgs (F := F)) adm p) c) (p : Fin 2)
    (R : Pipeline.RegionSeg (pcfgs (F := F)) adm pd (none : HIx 2) (defs₀ (F := F)) 𝒱₀ (K (F := F)).L (K (F := F)).lev p) (d : Dev nD) (Φ : PUnit → sProp 𝕄) :
    iprop(levAts (K (F := F)).L (K (F := F)).lev ∗ boundary (SparseCore.T d) ∗ R.pre d ∗ ghost p d ∗ (iprop(boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry p)) ())) Φ := by
  rw [show (Prog.lift (.customCall (SparseCore.inner (Pipeline.entry p)) ()) : Prog (TpuEff nD τ sig (Elt F) (SparseCore.Sig (ΛP (F := F)) 2) .tc) PUnit)
    = SparseCore.liftProg (.op (.customCall (Pipeline.entry p) ()) .ret) from rfl]
  iintro ⟨Hl, Hb, Hp, ⟨Hg, Ht⟩, Hk⟩
  iapply ((K (F := F)).wp_liftProg (D (F := F)) 𝒱 (SparseCore.T d) Set.univ none (.op (.customCall (Pipeline.entry p) ()) .ret) Φ)
  iapply (Pipeline.RegionSeg.wp (pcfgs (F := F)) adm pd (none : HIx 2) cells_inj EP (defs₀ (F := F)) 𝒱₀ (K (F := F)).L (K (F := F)).lev R d none
    (fun _ h => nomatch h) .ret Φ)
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

/-- What the main thread may have waited for is no matter of a dense call's: its state before call `n` apart from that. -/
theorem tcSt_debt (d : Dev nD) (n : ℕ) : ∃ R : sProp 𝕄, (K (F := F)).tcSt EH d n = iprop(debt d n ∗ R) :=
  ⟨_, rfl⟩

/-! ## The main thread -/

variable (m : (ℓ : Loc nD τ sig) → Buf (Elt F) ℓ) (ρ : Dev nD → PrngReg)

/-- A dense call's step, with the SparseCore calls' state carried along. -/
theorem wp_dense_call (pd : (p : Fin 2) → (c : Dev nD) → Dat τ (Elt F) (HIx 2) ℕ UU ℕ (Pipeline.pin (pcfgs (F := F)) adm p) c) (p : Fin 2)
    (R : Pipeline.RegionSeg (pcfgs (F := F)) adm pd (none : HIx 2) (defs₀ (F := F)) 𝒱₀ (K (F := F)).L (K (F := F)).lev p) (d : Dev nD) (n : ℕ)
    (V V' : Valuation τ sig (Elt F)) (hpre : R.pre d = iprop(arrays d V ∗ debt d n)) (hpost : R.post d = iprop(arrays d V' ∗ debt d n))
    (Φ : PUnit → sProp 𝕄) :
    iprop(levAts (K (F := F)).L (K (F := F)).lev ∗ boundary (SparseCore.T d) ∗ (K (F := F)).tcSt EH d n ∗ arrays d V ∗ ghost p d
        ∗ (iprop(boundary (SparseCore.T d) ∗ (K (F := F)).tcSt EH d n ∗ arrays d V') -∗ Φ ⟨⟩))
      ⊢ wp frame (wpE ((K (F := F)).defs (D (F := F))) 𝒱 (SparseCore.T d) none) Set.univ
          (Prog.lift (.customCall (SparseCore.inner (Pipeline.entry p)) ())) Φ := by
  obtain ⟨S, hS⟩ := tcSt_debt (F := F) d n
  rw [hS]
  iintro ⟨Hl, Hb, ⟨HO, HS⟩, Ha, Hg, Hk⟩
  iapply (wp_region pd p R d Φ)
  isplitl [Hl]; · iexact Hl
  isplitl [Hb]; · iexact Hb
  isplitl [Ha HO]
  · rw [hpre]
    isplitl [Ha]; · iexact Ha
    iexact HO
  isplitl [Hg]; · iexact Hg
  rw [hpost]
  iintro ⟨Hb, Ha, HO⟩
  iapply Hk
  isplitl [Hb]; · iexact Hb
  isplitl [HO HS]
  · isplitl [HO]; · iexact HO
    iexact HS
  iexact Ha

set_option backward.isDefEq.respectTransparency.types false in
/-- The main thread from the launch to its end. -/
theorem wp_main (κ : GSem nD τ sig → ℕ) (d : Dev nD) :
    iprop((K (F := F)).ctx EH (P (atCall m)) κ ∗ (K (F := F)).tcSt EH d 0 ∗ (K (F := F)).tcRes m ρ d ∗ ghost (F := F) 0 d ∗ ghost 1 d)
      ⊢ wp frame (wpE ((K (F := F)).defs (D (F := F))) 𝒱 (SparseCore.T d) none) Set.univ (main (F := F) d)
          fun _ => iprop((K (F := F)).tcSt EH d 2 ∗ arrays d (V7 m d) ∗ (K (F := F)).tcEnd d) := by
  unfold SparseCore.Cfg.tcRes SparseCore.Cfg.tcEnd
  rw [main_eq]
  iintro ⟨#Hctx, Hst, ⟨Hb, Ha, Hts, -⟩, Hg0, Hg1⟩
  ihave #Hl := (SparseCore.Cfg.ctx_levAts (K := K (F := F)) κ) $$ Hctx
  ihave Ha := (Entails.of_eq (Pipeline.unscopedBufs_held (Ix := HIx 2) (Name := ℕ) (U := UU) (Lvl := ℕ) d (StableHlo.launchContents m d))) $$ Ha
  iapply (StableHlo.wp_seq 𝒱 none Set.univ d (Pipeline.ucRefs τ sig) _ host1 sub1 fresh1 _) $$ [Hb Ha]
  · isplitl [Hb]; · iexact Hb
    iexact Ha
  iintro ⟨Hb, Ha⟩
  rw [wp_bind]
  iapply (wp_call (atCall m) κ d 0 _)
  isplitr; · iexact Hctx
  isplitl [Hst]; · iexact Hst
  isplitl [Ha]; · iexact Ha
  iintro ⟨Hst, Ha⟩
  rw [wp_bind]
  iapply (wp_dense_call (pd (atDense m)) 0 (region0 (atDense m)) d 1 (V2 m d) (V3 m d) rfl rfl _)
  isplitr; · iexact Hl
  isplitl [Hb]; · iexact Hb
  isplitl [Hst]; · iexact Hst
  isplitl [Ha]; · iexact Ha
  isplitl [Hg0]; · iexact Hg0
  iintro ⟨Hb, Hst, Ha⟩
  iapply (StableHlo.wp_seq 𝒱 none Set.univ d (Pipeline.ucRefs τ sig) _ host2 sub2 fresh2 _) $$ [Hb Ha]
  · isplitl [Hb]; · iexact Hb
    iexact Ha
  iintro ⟨Hb, Ha⟩
  rw [wp_bind]
  iapply (wp_call (atCall m) κ d 1 _)
  isplitr; · iexact Hctx
  isplitl [Hst]; · iexact Hst
  isplitl [Ha]; · iexact Ha
  iintro ⟨Hst, Ha⟩
  rw [wp_bind]
  iapply (wp_dense_call (pd (atDense m)) 1 (region1 (atDense m)) d 2 (V5 m d) (V6 m d) rfl rfl _)
  isplitr; · iexact Hl
  isplitl [Hb]; · iexact Hb
  isplitl [Hst]; · iexact Hst
  isplitl [Ha]; · iexact Ha
  isplitl [Hg1]; · iexact Hg1
  iintro ⟨Hb, Hst, Ha⟩
  iapply (StableHlo.wp_seq 𝒱 none Set.univ d (Pipeline.ucRefs τ sig) _ host3 sub3 fresh3 _) $$ [Hb Ha]
  · isplitl [Hb]; · iexact Hb
    iexact Ha
  iintro ⟨Hb, Ha⟩
  rw [wp_pure]
  imodintro
  isplitl [Hst]; · iexact Hst
  isplitl [Ha]; · iexact Ha
  isplitl [Hb]; · iexact Hb
  iexact Hts

/-- The arrays held at the end are what the memory then has. -/
theorem read_end (d : Dev nD) (s : Phys nD τ sig (Elt F)) :
    iprop(arrays d (V7 m d) ∗ SI s) ⊢ (⌜∀ b ∈ Pipeline.ucRefs τ sig, s.mem.mem ((d, b) : Loc nD τ sig) = V7 m d b⌝ : sProp 𝕄) := by
  unfold arrays StableHlo.held
  exact (pointsTo_read_all (Pipeline.ucRefs τ sig) (fun b => ((d, b) : Loc nD τ sig)) (V7 m d) s).trans sep_elim_left

/-- The program, its row numbers in range at both SparseCore calls, ends with every array of every device at `V7` and every
    semaphore at zero. -/
theorem run_main [∀ e, Nonempty (Elt F e)] (h0 : ∀ d, inRange 0 (V1 m d)) (h1 : ∀ d, inRange 1 (V4 m d)) :
    θ_run (Cert.KernelIdeal.defs (F := F)) (Cert.KernelIdeal.threads (F := F)) ⟨m, fun _ => 0, ρ⟩ fun r =>
      (∀ (d : Dev nD), ∀ b ∈ Pipeline.ucRefs τ sig, r.2.mem ((d, b) : Loc nD τ sig) = V7 m d b) ∧ r.2.sem = fun _ => 0 :=
  SparseCore.Cfg.θ_run_sc_quiescent (K := K (F := F)) (D := D (F := F)) (𝒱 := 𝒱) (EH := EH) (P := P (atCall m)) (A := ∅) facts v₀
    (fun q hq => match q with | 0 => nomatch hq | 1 => nomatch hq)
    (fun q _ => match q with | 0 => obl0 (atCall m) h0 | 1 => obl1 (atCall m) h1)
    (fun q _ => SparseCore.Cfg.VecSplit.of_plain (vecSplit (atCall m) q))
    m ρ main (fun d => iprop(ghost (F := F) 0 d ∗ ghost 1 d)) (fun d => arrays d (V7 m d)) (u₀ (F := F)) (sep_elim_left.trans (launch_ghost (atCall m)))
    (wp_main m ρ) (fun d s => ∀ b ∈ Pipeline.ucRefs τ sig, s.mem.mem ((d, b) : Loc nD τ sig) = V7 m d b) (read_end m) _ (fun _ h hz => ⟨h, hz⟩)

end Cert.Rows

end
-- ==== Proof.Reads.lean ====
/-
  What the arrays hold at each stage of the main thread, read back to the arguments: the arguments are never written, the
  row numbers of a call are entries of the array of pairs, the weights a dense call reads are the arguments' own.
-/
module

public import proofs.«01_k».proof.Proof.Host
public import proofs.«01_k».proof.Pre_in_range
public import Idealize.ShloMosaic.Lib.PointwiseCore
public import Idealize.ShloMosaic.Lib.ReduceAll

@[expose] public section

noncomputable section

namespace Cert.Rows

open Cert.KernelIdeal Cert.KernelIdeal.Gen
open Idealize.ShloMosaic
open Idealize.ShloMosaic.StableHlo (after after_unwritten)
open Idealize.SL.Sem

variable {F : FTy → Type} [FloatOps F] [Named F]

/-- The references the three stretches of host operations write. -/
def written1 : List (Ref sig .tc) :=
  [main_v0, main_v1, main_v2, main_v3, main_v4, main_v5, main_v6, main_v7, main_v8, main_v9, main_v10, main_v11, main_v12, main_v13, main_v14, main_v15]
def written2 : List (Ref sig .tc) := [main_v18, main_v19, main_v20, main_v21]
def written3 : List (Ref sig .tc) := [main_v24, main_v25]

theorem host1_writes : (host1 (F := F)).map HloOp.writes = written1.map fun w => {Proc.devRef (τ := τ) .tc w} := rfl
theorem host2_writes : (host2 (F := F)).map HloOp.writes = written2.map fun w => {Proc.devRef (τ := τ) .tc w} := rfl
theorem host3_writes : (host3 (F := F)).map HloOp.writes = written3.map fun w => {Proc.devRef (τ := τ) .tc w} := rfl

variable (m : (ℓ : Loc nD τ sig) → Buf (Elt F) ℓ) (d : Dev nD)

/-- The first dense call leaves every array but its result. -/
theorem dense1_keeps (n : ℕ) (V : Valuation τ sig (Elt F)) (r : Ref sig .tc) (h : r ≠ main_v17) :
    Pipeline.afterRegion (dat1 n V d) V (rf r) = V (rf r) :=
  Pipeline.afterRegion_keeps (dat1 n V d) V launch1.win.arr_inj (fun _ => rfl) r (fun w hw => by
    subst hw; revert h; fin_cases w <;> first | (intro; rfl) | (intro h; exact absurd rfl h))
/-- The second too. -/
theorem dense3_keeps (n : ℕ) (V : Valuation τ sig (Elt F)) (r : Ref sig .tc) (h : r ≠ main_v23) :
    Pipeline.afterRegion (dat3 n V d) V (rf r) = V (rf r) :=
  Pipeline.afterRegion_keeps (dat3 n V d) V launch3.win.arr_inj (fun _ => rfl) r (fun w hw => by
    subst hw; revert h; fin_cases w <;> first | (intro; rfl) | (intro h; exact absurd rfl h))

/-- A SparseCore call leaves every array but its two results. -/
theorem call_keeps0 (V : Valuation τ sig (Elt F)) (r : Ref sig .tc) (h : r ∉ [main_v16_0, main_v16_1]) : called 0 V (rf r) = V (rf r) :=
  called_keep 0 V ⟨StableHlo.devRef_ne_of_ne (fun e => h (by simp [e])), StableHlo.devRef_ne_of_ne (fun e => h (by simp [e]))⟩
theorem call_keeps1 (V : Valuation τ sig (Elt F)) (r : Ref sig .tc) (h : r ∉ [main_v22_0, main_v22_1]) : called 1 V (rf r) = V (rf r) :=
  called_keep 1 V ⟨StableHlo.devRef_ne_of_ne (fun e => h (by simp [e])), StableHlo.devRef_ne_of_ne (fun e => h (by simp [e]))⟩

theorem V2_keeps (r : Ref sig .tc) (h : r ∉ [main_v16_0, main_v16_1]) : V2 m d (rf r) = V1 m d (rf r) := call_keeps0 _ r h
theorem V4_keeps (r : Ref sig .tc) (h : r ∉ main_v16_0 :: main_v16_1 :: main_v17 :: written2) : V4 m d (rf r) = V1 m d (rf r) := by
  simp only [List.mem_cons, not_or] at h
  exact (after_unwritten written2 host2_writes h.2.2.2 _).trans ((dense1_keeps d 1 _ r h.2.2.1).trans
    (V2_keeps m d r (by simp only [List.mem_cons, List.not_mem_nil, not_or]; exact ⟨h.1, h.2.1, not_false⟩)))
theorem V5_keeps (r : Ref sig .tc) (h : r ∉ [main_v22_0, main_v22_1]) : V5 m d (rf r) = V4 m d (rf r) := call_keeps1 _ r h
theorem V6_keeps (r : Ref sig .tc) (h : r ∉ [main_v22_0, main_v22_1, main_v23]) : V6 m d (rf r) = V4 m d (rf r) := by
  simp only [List.mem_cons, not_or] at h
  exact (dense3_keeps d 2 _ r h.2.2.1).trans
    (V5_keeps m d r (by simp only [List.mem_cons, List.not_mem_nil, not_or]; exact ⟨h.1, h.2.1, not_false⟩))

/-- An array that the program writes nowhere ends as it began. -/
theorem V7_keeps (r : Ref sig .tc)
    (h : r ∉ written1 ∧ r ∉ main_v16_0 :: main_v16_1 :: main_v17 :: written2 ∧ r ∉ [main_v22_0, main_v22_1, main_v23] ∧ r ∉ written3) :
    V7 m d (rf r) = m ((d.tc : Thread nD τ).loc r) :=
  (after_unwritten written3 host3_writes h.2.2.2 _).trans ((V6_keeps m d r h.2.2.1).trans ((V4_keeps m d r h.2.1).trans
    (after_unwritten written1 host1_writes h.1 _)))

/-- An argument at the first call holds what it held at the start. -/
theorem V1_arg (r : Ref sig .tc) (h : r ∉ written1) : V1 m d (rf r) = m ((d.tc : Thread nD τ).loc r) := after_unwritten written1 host1_writes h _

/-! ## The row numbers -/

/-- Component `s` of the pairs, in two halves of 32 groups of two rows of 128. -/
def column {α : Type} (s : Fin 2) (x : S16384x2.Idx → α) : S2x32x2x128.Idx → α := fun y =>
  have h0 : (y 0).val < 2 := (y 0).isLt
  have h1 : (y 1).val < 32 := (y 1).isLt
  have h2 : (y 2).val < 2 := (y 2).isLt
  have h3 : (y 3).val < 128 := (y 3).isLt
  x (ix2 (⟨(y 0).val * 8192 + (y 1).val * 256 + (y 2).val * 128 + (y 3).val, by omega⟩ : Fin 16384) s)

/-- Half `q` of such an array. -/
def half {α : Type} (q : Fin 2) (c : S2x32x2x128.Idx → α) : S32x2x128.Idx → α := fun y => c (ix4 q (y 0) (y 1) (y 2))

theorem column_0 {α : Type} (x : S16384x2.Idx → α) :
    shapeCast S2x32x2x128 (shapeCast S16384 (extractStridedSlice S16384x1 ![0, 0] x slices_S16384x2_S16384x1_0_0) shapeCasts_S16384x1_S16384)
      shapeCasts_S16384_S2x32x2x128 = column 0 x := by
  funext y
  pointwise
  rfl
theorem column_1 {α : Type} (x : S16384x2.Idx → α) :
    shapeCast S2x32x2x128 (shapeCast S16384 (extractStridedSlice S16384x1 ![0, 1] x slices_S16384x2_S16384x1_0_1) shapeCasts_S16384x1_S16384)
      shapeCasts_S16384_S2x32x2x128 = column 1 x := by
  funext y
  pointwise
  rfl
theorem half_0 {α : Type} (c : S2x32x2x128.Idx → α) :
    shapeCast S32x2x128 (extractStridedSlice S1x32x2x128 ![0, 0, 0, 0] c slices_S2x32x2x128_S1x32x2x128_0_0_0_0) shapeCasts_S1x32x2x128_S32x2x128
      = half 0 c := by
  funext y
  pointwise
  rfl
theorem half_1 {α : Type} (c : S2x32x2x128.Idx → α) :
    shapeCast S32x2x128 (extractStridedSlice S1x32x2x128 ![1, 0, 0, 0] c slices_S2x32x2x128_S1x32x2x128_1_0_0_0) shapeCasts_S1x32x2x128_S32x2x128
      = half 1 c := by
  funext y
  pointwise
  rfl

/-- The pairs, at the start. -/
abbrev pairs : S16384x2.Idx → BitVec 32 := m ((d.tc : Thread nD τ).loc main_arg0)

theorem V1_v2 : V1 m d (rf main_v2) = column 0 (pairs m d) := by
  show after host1 _ (Proc.devRef .tc main_v2) = _
  unfold host1
  after_reads_simp
  exact column_0 _
theorem V1_v5 : V1 m d (rf main_v5) = column 1 (pairs m d) := by
  show after host1 _ (Proc.devRef .tc main_v5) = _
  unfold host1
  after_reads_simp
  exact column_1 _

/-- The row numbers the first call reads, -/
theorem V1_v13 : V1 m d (rf main_v13) = half 0 (column 0 (pairs m d)) := by
  show after host1 _ (Proc.devRef .tc main_v13) = _
  unfold host1
  after_reads_simp
  exact (half_0 _).trans (congrArg _ (column_0 _))
theorem V1_v15 : V1 m d (rf main_v15) = half 0 (column 1 (pairs m d)) := by
  show after host1 _ (Proc.devRef .tc main_v15) = _
  unfold host1
  after_reads_simp
  exact (half_0 _).trans (congrArg _ (column_1 _))

theorem V3_v2 : V3 m d (rf main_v2) = column 0 (pairs m d) :=
  (dense1_keeps d 1 _ main_v2 (by decide)).trans ((V2_keeps m d main_v2 (by decide)).trans (V1_v2 m d))
theorem V3_v5 : V3 m d (rf main_v5) = column 1 (pairs m d) :=
  (dense1_keeps d 1 _ main_v5 (by decide)).trans ((V2_keeps m d main_v5 (by decide)).trans (V1_v5 m d))

/-- and the second. -/
theorem V4_v19 : V4 m d (rf main_v19) = half 1 (column 0 (pairs m d)) := by
  show after host2 _ (Proc.devRef .tc main_v19) = _
  unfold host2
  after_reads_simp
  exact (half_1 _).trans (congrArg _ (V3_v2 m d))
theorem V4_v21 : V4 m d (rf main_v21) = half 1 (column 1 (pairs m d)) := by
  show after host2 _ (Proc.devRef .tc main_v21) = _
  unfold host2
  after_reads_simp
  exact (half_1 _).trans (congrArg _ (V3_v5 m d))

/-- Where every entry of the pairs is a row of the tables, so is every row number either call reads. -/
theorem inRange_0 (h : ∀ i, (pairs m d i).toNat < 1000) : inRange 0 (V1 m d) := by
  unfold inRange
  rw [V1_v13, V1_v15]
  exact ⟨fun _ => h _, fun _ => h _⟩
theorem inRange_1 (h : ∀ i, (pairs m d i).toNat < 1000) : inRange 1 (V4 m d) := by
  unfold inRange
  rw [V4_v19, V4_v21]
  exact ⟨fun _ => h _, fun _ => h _⟩

/-- A precondition stated as "every entry is at least 0 and below 1000", all of them true, says that every entry is below
    1000 as a natural number. -/
theorem below_of_pre [Cert.Pre_in_range.Facts] (x : IVec S16384x2 32) {a1 a2 a3 a4 a5 a6 a7 a8}
    (h : Cert.Pre_in_range.fn (F := F) x a1 a2 a3 a4 a5 a6 a7 a8 = fun _ => 1#1) (i : S16384x2.Idx) : (x i).toNat < 1000 := by
  have andi_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  haveI : Subsingleton Cert.Pre_in_range.S_.Idx := ⟨fun a b => funext fun k => k.elim0⟩
  have e := Host.reduce_andi_all _ _ _ _ ix0 (congrFun h ix0) i
  simp only [andi, cmpi, broadcastInDim, constantI] at e
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at e
  omega

end Cert.Rows

end
-- ==== Proof.Frames.lean ====
/-
  The frames: with every entry of the pairs a row of the tables, the kernel runs, over the words and over the extended reals,
  its arguments end as they were and every semaphore counter is zero again; the reference too, with no assumption. And the
  kernel over the extended reals is the kernel with its one constant named.
-/
module

public import proofs.«01_k».proof.Defs
public import proofs.«01_k».proof.Proof.MainRun
public import proofs.«01_k».proof.Proof.Reads
public import proofs.«01_k».proof.Proof.Gen.Kernel
public import proofs.«01_k».proof.Proof.Gen.Pre_in_range
public import proofs.«01_k».proof.Proof.Gen.ReferenceIdeal.Run

@[expose] public section

noncomputable section

namespace Cert.Rows

open Cert.KernelIdeal Cert.KernelIdeal.Gen
open Idealize.ShloMosaic
open Idealize.SL.Sem

variable {F : FTy → Type} [FloatOps F] [Named F]
variable (m : (ℓ : Loc nD τ sig) → Buf (Elt F) ℓ) (ρ : Dev nD → PrngReg)

/-- Where every entry of the pairs is a row of the tables, the program runs; each array of the device ends at what the last
    stage's contents say, every counter at zero. -/
theorem run_whole [∀ e, Nonempty (Elt F e)] (h : ∀ d i, (pairs m d i).toNat < 1000) :
    θ_run Cert.KernelIdeal.defs Cert.KernelIdeal.threads ⟨m, fun _ => 0, ρ⟩ fun r =>
      (∀ (d : Dev nD) (b : Ref sig .tc), b.isScoped = false → r.2.mem ((d.tc : Thread nD τ).loc b) = V7 m d (rf b)) ∧ r.2.sem = fun _ => 0 :=
  (θ_run Cert.KernelIdeal.defs _ _).mono (fun _ h => ⟨fun d _ hb => h.1 d _ (Pipeline.devRef_mem_ucRefs hb), h.2⟩)
    (run_main m ρ (fun d => inRange_0 m d (h d)) (fun d => inRange_1 m d (h d)))

/-- The nine arguments are never written. -/
theorem V7_args (d : Dev nD) :
    V7 m d (rf main_arg0) = m ((d.tc : Thread nD τ).loc main_arg0) ∧ V7 m d (rf main_arg1) = m ((d.tc : Thread nD τ).loc main_arg1)
    ∧ V7 m d (rf main_arg2) = m ((d.tc : Thread nD τ).loc main_arg2) ∧ V7 m d (rf main_arg3) = m ((d.tc : Thread nD τ).loc main_arg3)
    ∧ V7 m d (rf main_arg4) = m ((d.tc : Thread nD τ).loc main_arg4) ∧ V7 m d (rf main_arg5) = m ((d.tc : Thread nD τ).loc main_arg5)
    ∧ V7 m d (rf main_arg6) = m ((d.tc : Thread nD τ).loc main_arg6) ∧ V7 m d (rf main_arg7) = m ((d.tc : Thread nD τ).loc main_arg7)
    ∧ V7 m d (rf main_arg8) = m ((d.tc : Thread nD τ).loc main_arg8) :=
  ⟨V7_keeps m d _ (by decide), V7_keeps m d _ (by decide), V7_keeps m d _ (by decide), V7_keeps m d _ (by decide), V7_keeps m d _ (by decide),
    V7_keeps m d _ (by decide), V7_keeps m d _ (by decide), V7_keeps m d _ (by decide), V7_keeps m d _ (by decide)⟩

/-- What a final state whose arrays are the last stage's says of the arguments. -/
theorem args_kept {s : (ℓ : Loc nD τ sig) → Buf (Elt F) ℓ} {d : Dev nD}
    (h : ∀ b : Ref sig .tc, b.isScoped = false → s ((d.tc : Thread nD τ).loc b) = V7 m d (rf b)) :
    s ((d.tc : Thread nD τ).loc main_arg0) = m ((d.tc : Thread nD τ).loc main_arg0) ∧ s ((d.tc : Thread nD τ).loc main_arg1) = m ((d.tc : Thread nD τ).loc main_arg1)
    ∧ s ((d.tc : Thread nD τ).loc main_arg2) = m ((d.tc : Thread nD τ).loc main_arg2) ∧ s ((d.tc : Thread nD τ).loc main_arg3) = m ((d.tc : Thread nD τ).loc main_arg3)
    ∧ s ((d.tc : Thread nD τ).loc main_arg4) = m ((d.tc : Thread nD τ).loc main_arg4) ∧ s ((d.tc : Thread nD τ).loc main_arg5) = m ((d.tc : Thread nD τ).loc main_arg5)
    ∧ s ((d.tc : Thread nD τ).loc main_arg6) = m ((d.tc : Thread nD τ).loc main_arg6) ∧ s ((d.tc : Thread nD τ).loc main_arg7) = m ((d.tc : Thread nD τ).loc main_arg7)
    ∧ s ((d.tc : Thread nD τ).loc main_arg8) = m ((d.tc : Thread nD τ).loc main_arg8) :=
  have ⟨a0, a1, a2, a3, a4, a5, a6, a7, a8⟩ := V7_args m d
  ⟨(h _ rfl).trans a0, (h _ rfl).trans a1, (h _ rfl).trans a2, (h _ rfl).trans a3, (h _ rfl).trans a4, (h _ rfl).trans a5, (h _ rfl).trans a6,
    (h _ rfl).trans a7, (h _ rfl).trans a8⟩

/-- The kernel's frame over the extended reals. -/
theorem frame_ideal : Cert.quiescent_KernelIdeal := fun m ρ hp =>
  (θ_run Cert.KernelIdeal.defs _ _).mono (fun _ h => ⟨fun d => args_kept m (h.1 d), h.2⟩)
    (run_whole (F := Ideal) m ρ (fun d i => below_of_pre (pairs m d) (hp d) i))

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's one named constant reads as its name says. -/
theorem named_kept : Cert.preserves_Kernel_KernelIdeal := IdealRules.named_const.statement _ _ _ _ _ rfl

end Cert.Rows

end
-- ==== Proof.Words.lean ====
/-
  The kernel's frame over the words. Over the words its text and the ideal one's are the same program, the constant read as
  the word it is printed with, so the one run serves both.
-/
module

public import proofs.«01_k».proof.Proof.Frames

@[expose] public section

noncomputable section

namespace Cert.Rows
open Idealize.ShloMosaic Idealize.SL.Sem Cert.KernelIdeal.Gen Cert.Kernel.Gen

/-- Over the words a named constant is the word it is printed with. -/
@[reducible] def wordNamed : Named Bits := ⟨fun _ _ {φ} b => Scalar.ofBits (F := Bits) φ b⟩

attribute [local instance] wordNamed

set_option maxRecDepth 16384
set_option maxHeartbeats 2000000

set_option smartUnfolding false

/-- The kernel's frame over the words: the same run. -/
theorem frame_words : Cert.quiescent_Kernel := fun m ρ hp =>
  (θ_run (Cert.KernelIdeal.defs (F := Bits)) (Cert.KernelIdeal.threads (F := Bits)) ⟨m, fun _ => 0, ρ⟩).mono
    (fun _ h => ⟨fun d => args_kept (F := Bits) m (h.1 d), h.2⟩)
    (run_whole (F := Bits) m ρ (fun d i => below_of_pre (F := Bits) (pairs (F := Bits) m d) (hp d) i))

end Cert.Rows

end
-- ==== Proof.Score.lean ====
/-
  One row's result, over the extended reals: the two looked-up rows are divided by their lengths, joined, and taken through
  the three dense layers. Both programs compute this of every row.
-/
module

public import proofs.«01_k».proof.Proof.Dense
public import Idealize.ShloMosaic.Lib.Pointwise

@[expose] public section

noncomputable section

namespace Cert.Rows

open Cert.KernelIdeal Cert.KernelIdeal.Gen
open Idealize.ShloMosaic
open Finset

/-- The kernel's named constant: the least squared length a row counts as having. -/
abbrev epsSq : Ideal .f32 := Named.named κ "eps_sq" 0x179ABE15#32

/-- A row scaled as the kernel scales it: by the reciprocal root of its squared length, which counts as no less than the
    named constant. -/
def scaled (v : Fin 128 → EReal) (k : Fin 128) : EReal := v k * Ideal.rsqrt (max (∑ i, v i * v i) epsSq)

/-- The first layer: the two rows against the two halves of its weight, its bias, the negative part dropped. -/
def layer1 (p n : Fin 128 → EReal) (w : S256x128.Idx → EReal) (b : S128.Idx → EReal) (j : Fin 128) : EReal :=
  max (∑ k : Fin 128, p k * w (ix2 (Fin.castAdd 128 k : Fin 256) j) + ∑ k : Fin 128, n k * w (ix2 (Fin.natAdd 128 k : Fin 256) j) + b (ix1 j)) 0

/-- The second layer. -/
def layer2 (h : Fin 128 → EReal) (w : S128x128.Idx → EReal) (b : S128.Idx → EReal) (j : Fin 128) : EReal :=
  max (∑ k : Fin 128, h k * w (ix2 k j) + b (ix1 j)) 0

/-- The third: one number. -/
def layer3 (h : Fin 128 → EReal) (w : S128x1.Idx → EReal) (b : S1.Idx → EReal) : EReal :=
  ∑ k : Fin 128, h k * w (ix2 k (0 : Fin 1)) + b (ix1 (0 : Fin 1))

/-- The result of two rows. -/
def score (w1 : S256x128.Idx → EReal) (b1 : S128.Idx → EReal) (w2 : S128x128.Idx → EReal) (b2 : S128.Idx → EReal) (w3 : S128x1.Idx → EReal)
    (b3 : S1.Idx → EReal) (p n : Fin 128 → EReal) : EReal :=
  layer3 (layer2 (layer1 (scaled p) (scaled n) w1 b1) w2 b2) w3 b3

/-- The results of all rows: row `i` has the row of each table that its pair names. -/
def scores (x : S16384x2.Idx → BitVec 32) (tp tn : S1000x128.Idx → EReal) (w1 : S256x128.Idx → EReal) (b1 : S128.Idx → EReal) (w2 : S128x128.Idx → EReal)
    (b2 : S128.Idx → EReal) (w3 : S128x1.Idx → EReal) (b3 : S1.Idx → EReal) (i : Fin 16384) : EReal :=
  score w1 b1 w2 b2 w3 b3 (fun k => tp (ix2 (rowNo (x (ix2 i (0 : Fin 2)))) k)) (fun k => tn (ix2 (rowNo (x (ix2 i (1 : Fin 2)))) k))

/-- Element `y` of a block's results is the result of row `y` of the block, the weights held as rows and the first in halves. -/
theorem dense_apply (p n : S1024x128.Idx → Elt Ideal .f32) (w1p w1n : S128x128.Idx → Elt Ideal .f32) (b1' : S1x128.Idx → Elt Ideal .f32)
    (b2' w3' : S1x128.Idx → Elt Ideal .f32) (b3' : S1x1.Idx → Elt Ideal .f32)
    (w1 : S256x128.Idx → EReal) (b1 : S128.Idx → EReal) (w2 : S128x128.Idx → EReal) (b2 : S128.Idx → EReal) (w3 : S128x1.Idx → EReal) (b3 : S1.Idx → EReal)
    (hp : ∀ k j : Fin 128, w1p (ix2 k j) = w1 (ix2 (Fin.castAdd 128 k : Fin 256) j))
    (hn : ∀ k j : Fin 128, w1n (ix2 k j) = w1 (ix2 (Fin.natAdd 128 k : Fin 256) j))
    (h1 : ∀ j : Fin 128, b1' (ix2 (0 : Fin 1) j) = b1 (ix1 j)) (h2 : ∀ j : Fin 128, b2' (ix2 (0 : Fin 1) j) = b2 (ix1 j))
    (h3 : ∀ j : Fin 128, w3' (ix2 (0 : Fin 1) j) = w3 (ix2 j (0 : Fin 1))) (h4 : b3' (ix2 (0 : Fin 1) (0 : Fin 1)) = b3 (ix1 (0 : Fin 1)))
    (y : S1x1024.Idx) :
    dense (F := Ideal) p n w1p w1n b1' w2 b2' w3' b3' y
      = score w1 b1 w2 b2 w3 b3 (fun k => p (ix2 (y 1 : Fin 1024) k)) (fun k => n (ix2 (y 1 : Fin 1024) k)) := by
  have hy : y 0 = (0 : Fin 1) := Subsingleton.elim (α := Fin 1) _ _
  unfold dense k1_pay1 k1_pay2 k1_pay3
  pointwise
  simp only [hy, score, layer3, layer2, layer1, scaled]
  refine congrArg₂ (· + ·) (Finset.sum_congr rfl fun j _ => ?_) h4
  rw [mul_comm]
  refine congrArg₂ (· * ·) (congrArg (max · 0) (congrArg₂ (· + ·) (Finset.sum_congr rfl fun k _ => congrArg (· * _) (congrArg (max · 0)
    (congrArg₂ (· + ·) (congrArg₂ (· + ·) (Finset.sum_congr rfl fun i _ => ?_) (Finset.sum_congr rfl fun i _ => ?_)) (h1 k)))) (h2 j))) (h3 j)
  · exact congrArg _ (hp i k)
  · exact congrArg _ (hn i k)

end Cert.Rows

end
-- ==== Proof.Blocks.lean ====
/-
  The dense calls' results as whole arrays, over the extended reals: element `j` is the result of row `j` of the two arrays of
  looked-up rows that the call reads.
-/
module

public import proofs.«01_k».proof.Proof.Score
public import proofs.«01_k».proof.Proof.DenseCall
public import Idealize.ShloMosaic.Lib.Pipeline.ValueKit.Geometry

@[expose] public section

noncomputable section

namespace Cert.Rows

open Cert.KernelIdeal Cert.KernelIdeal.Gen
open Idealize.ShloMosaic
open Idealize.ShloMosaic.Pipeline (Dat)

/-- What the arrays of weights that both dense calls read hold: the first weight in halves, the biases and the third weight as rows. -/
structure Weights (V : Valuation τ sig (Elt Ideal)) (w1 : S256x128.Idx → EReal) (b1 : S128.Idx → EReal) (w2 : S128x128.Idx → EReal) (b2 : S128.Idx → EReal)
    (w3 : S128x1.Idx → EReal) (b3 : S1.Idx → EReal) : Prop where
  upper : ∀ k j : Fin 128, (V (rf main_v6) : S128x128.Idx → EReal) (ix2 k j) = w1 (ix2 (Fin.castAdd 128 k : Fin 256) j)
  lower : ∀ k j : Fin 128, (V (rf main_v7) : S128x128.Idx → EReal) (ix2 k j) = w1 (ix2 (Fin.natAdd 128 k : Fin 256) j)
  bias1 : ∀ j : Fin 128, (V (rf main_v8) : S1x128.Idx → EReal) (ix2 (0 : Fin 1) j) = b1 (ix1 j)
  second : (V (rf main_arg5) : S128x128.Idx → EReal) = w2
  bias2 : ∀ j : Fin 128, (V (rf main_v9) : S1x128.Idx → EReal) (ix2 (0 : Fin 1) j) = b2 (ix1 j)
  third : ∀ j : Fin 128, (V (rf main_v10) : S1x128.Idx → EReal) (ix2 (0 : Fin 1) j) = w3 (ix2 j (0 : Fin 1))
  bias3 : (V (rf main_v11) : S1x1.Idx → EReal) (ix2 (0 : Fin 1) (0 : Fin 1)) = b3 (ix1 (0 : Fin 1))

/-- The results of 8192 rows of each of two arrays. -/
def resultRow (w1 : S256x128.Idx → EReal) (b1 : S128.Idx → EReal) (w2 : S128x128.Idx → EReal) (b2 : S128.Idx → EReal) (w3 : S128x1.Idx → EReal)
    (b3 : S1.Idx → EReal) (p n : S8192x128.Idx → EReal) : S1x8192.Idx → EReal :=
  fun j => score w1 b1 w2 b2 w3 b3 (fun k => p (ix2 (j 1 : Fin 8192) k)) (fun k => n (ix2 (j 1 : Fin 8192) k))

variable (V : Valuation τ sig (Elt Ideal))
variable {w1 : S256x128.Idx → EReal} {b1 : S128.Idx → EReal} {w2 : S128x128.Idx → EReal} {b2 : S128.Idx → EReal} {w3 : S128x1.Idx → EReal} {b3 : S1.Idx → EReal}

/-! ## Which block of its array each window of the first dense call is at -/

theorem at1_0 : ∀ t : Fin cfg1.N, win1_0.index t = ![t.val, 0] := (by decide +kernel : ∀ t : Fin grid1.N, _)
theorem at1_1 : ∀ t : Fin cfg1.N, win1_1.index t = ![t.val, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![0, 0] := (by decide +kernel : ∀ t : Fin grid1.N, _)
theorem at1_5 : ∀ t : Fin cfg1.N, win1_5.index t = ![0, 0] := (by decide +kernel : ∀ t : Fin grid1.N, _)
theorem at1_6 : ∀ t : Fin cfg1.N, win1_6.index t = ![0, 0] := (by decide +kernel : ∀ t : Fin grid1.N, _)
theorem at1_7 : ∀ t : Fin cfg1.N, win1_7.index t = ![0, 0] := (by decide +kernel : ∀ t : Fin grid1.N, _)
theorem at1_8 : ∀ t : Fin cfg1.N, win1_8.index t = ![0, 0] := (by decide +kernel : ∀ t : Fin grid1.N, _)
theorem at1_9 : ∀ t : Fin cfg1.N, win1_9.index t = ![0, t.val] := (by decide +kernel : ∀ t : Fin grid1.N, _)

/-- The place of row `y` of block `t`, in an array of 8192 of them. -/
def rowAt (t : Fin cfg1.N) (y : Fin 1024) : Fin 8192 :=
  ⟨t.val * 1024 + y.val, by have h : t.val < 8 := N_1 ▸ t.isLt; omega⟩

theorem blk1_0 (t : Fin cfg1.N) (y : Fin 1024) (k : Fin 128) : blk1 V 0 t (ix2 y k) = V (rf main_v16_0) (ix2 (rowAt t y) k) := by
  refine congrArg (V (Proc.devRef .tc main_v16_0)) (?_ : ((cfg1.win 0).blk t).view.emb (ix2 y k) = ix2 (rowAt t y) k)
  unfold rowAt
  blk_ext [at1_0]
theorem blk1_1 (t : Fin cfg1.N) (y : Fin 1024) (k : Fin 128) : blk1 V 1 t (ix2 y k) = V (rf main_v16_1) (ix2 (rowAt t y) k) := by
  refine congrArg (V (Proc.devRef .tc main_v16_1)) (?_ : ((cfg1.win 1).blk t).view.emb (ix2 y k) = ix2 (rowAt t y) k)
  unfold rowAt
  blk_ext [at1_1]
theorem blk1_2 (t : Fin cfg1.N) : blk1 V 2 t = V (rf main_v6) :=
  funext fun y : S128x128.Idx => congrArg (V (Proc.devRef .tc main_v6)) (by blk_ext [at1_2] : ((cfg1.win 2).blk t).view.emb y = y)
theorem blk1_3 (t : Fin cfg1.N) : blk1 V 3 t = V (rf main_v7) :=
  funext fun y : S128x128.Idx => congrArg (V (Proc.devRef .tc main_v7)) (by blk_ext [at1_3] : ((cfg1.win 3).blk t).view.emb y = y)
theorem blk1_4 (t : Fin cfg1.N) : blk1 V 4 t = V (rf main_v8) :=
  funext fun y : S1x128.Idx => congrArg (V (Proc.devRef .tc main_v8)) (by blk_ext [at1_4] : ((cfg1.win 4).blk t).view.emb y = y)
theorem blk1_5 (t : Fin cfg1.N) : blk1 V 5 t = V (rf main_arg5) :=
  funext fun y : S128x128.Idx => congrArg (V (Proc.devRef .tc main_arg5)) (by blk_ext [at1_5] : ((cfg1.win 5).blk t).view.emb y = y)
theorem blk1_6 (t : Fin cfg1.N) : blk1 V 6 t = V (rf main_v9) :=
  funext fun y : S1x128.Idx => congrArg (V (Proc.devRef .tc main_v9)) (by blk_ext [at1_6] : ((cfg1.win 6).blk t).view.emb y = y)
theorem blk1_7 (t : Fin cfg1.N) : blk1 V 7 t = V (rf main_v10) :=
  funext fun y : S1x128.Idx => congrArg (V (Proc.devRef .tc main_v10)) (by blk_ext [at1_7] : ((cfg1.win 7).blk t).view.emb y = y)
theorem blk1_8 (t : Fin cfg1.N) : blk1 V 8 t = V (rf main_v11) :=
  funext fun y : S1x1.Idx => congrArg (V (Proc.devRef .tc main_v11)) (by blk_ext [at1_8] : ((cfg1.win 8).blk t).view.emb y = y)

/-- What the call leaves of block `t`, at the block's row `y`. -/
theorem out1_apply (h : Weights V w1 b1 w2 b2 w3 b3) (t : Fin cfg1.N) (y : S1x1024.Idx) :
    out1 V t y = score w1 b1 w2 b2 w3 b3 (fun k => (V (rf main_v16_0) : S8192x128.Idx → EReal) (ix2 (rowAt t (y 1)) k))
      (fun k => (V (rf main_v16_1) : S8192x128.Idx → EReal) (ix2 (rowAt t (y 1)) k)) := by
  unfold out1
  rw [blk1_2, blk1_3, blk1_4, blk1_5, blk1_6, blk1_7, blk1_8]
  refine (dense_apply _ _ _ _ _ _ _ _ w1 b1 (V (rf main_arg5)) b2 w3 b3 h.upper h.lower h.bias1 h.bias2 h.third h.bias3 y).trans ?_
  rw [h.second]
  exact congrArg₂ (score w1 b1 w2 b2 w3 b3) (funext fun k => blk1_0 V t (y 1) k) (funext fun k => blk1_1 V t (y 1) k)

/-- Its blocks are all of its result array. -/
theorem dense1_covers : (cfg1.win 9).Covers := (by decide +kernel : win1_9.Covers)

theorem emb1_9 (t : Fin cfg1.N) (y : S1x1024.Idx) : ((cfg1.win 9).blk t).view.emb y = ix2 (0 : Fin 1) (rowAt t (y 1)) := by
  unfold rowAt
  blk_ext [at1_9]

/-- What the call leaves of each block is that block of an array, where its result at every row of every block is. -/
theorem dense1_arr (n : ℕ) (d : Dev nD) (G : S1x8192.Idx → Elt Ideal .f32) (hG : ∀ t y, out1 V t y = G (ix2 (0 : Fin 1) (rowAt t (y 1)))) :
    (dat1 n V d).arrAt 9 cfg1.N = G :=
  Dat.arrAt_eq_of_covers (dat1 n V d) 9 G dense1_covers fun t _ y => (hG t y).trans (congrArg G (emb1_9 t y).symm)

/-- The first dense call's result array when it has run. -/
theorem dense1_result (h : Weights V w1 b1 w2 b2 w3 b3) (n : ℕ) (d : Dev nD) :
    Pipeline.afterRegion (dat1 n V d) V (rf main_v17) = resultRow w1 b1 w2 b2 w3 b3 (V (rf main_v16_0)) (V (rf main_v16_1)) :=
  (Pipeline.afterRegion_arr (dat1 n V d) V launch1.win.arr_inj 9).trans
    (dense1_arr V n d (resultRow w1 b1 w2 b2 w3 b3 (V (rf main_v16_0)) (V (rf main_v16_1))) (out1_apply V h))

/-! ## Which block of its array each window of the second dense call is at -/

theorem at3_0 : ∀ t : Fin cfg3.N, win3_0.index t = ![t.val, 0] := (by decide +kernel : ∀ t : Fin grid3.N, _)
theorem at3_1 : ∀ t : Fin cfg3.N, win3_1.index t = ![t.val, 0] := (by decide +kernel : ∀ t : Fin grid3.N, _)
theorem at3_2 : ∀ t : Fin cfg3.N, win3_2.index t = ![0, 0] := (by decide +kernel : ∀ t : Fin grid3.N, _)
theorem at3_3 : ∀ t : Fin cfg3.N, win3_3.index t = ![0, 0] := (by decide +kernel : ∀ t : Fin grid3.N, _)
theorem at3_4 : ∀ t : Fin cfg3.N, win3_4.index t = ![0, 0] := (by decide +kernel : ∀ t : Fin grid3.N, _)
theorem at3_5 : ∀ t : Fin cfg3.N, win3_5.index t = ![0, 0] := (by decide +kernel : ∀ t : Fin grid3.N, _)
theorem at3_6 : ∀ t : Fin cfg3.N, win3_6.index t = ![0, 0] := (by decide +kernel : ∀ t : Fin grid3.N, _)
theorem at3_7 : ∀ t : Fin cfg3.N, win3_7.index t = ![0, 0] := (by decide +kernel : ∀ t : Fin grid3.N, _)
theorem at3_8 : ∀ t : Fin cfg3.N, win3_8.index t = ![0, 0] := (by decide +kernel : ∀ t : Fin grid3.N, _)
theorem at3_9 : ∀ t : Fin cfg3.N, win3_9.index t = ![0, t.val] := (by decide +kernel : ∀ t : Fin grid3.N, _)

/-- The place of row `y` of block `t`, in an array of 8192 of them. -/
def rowAt3 (t : Fin cfg3.N) (y : Fin 1024) : Fin 8192 :=
  ⟨t.val * 1024 + y.val, by have h : t.val < 8 := N_3 ▸ t.isLt; omega⟩

theorem blk3_0 (t : Fin cfg3.N) (y : Fin 1024) (k : Fin 128) : blk3 V 0 t (ix2 y k) = V (rf main_v22_0) (ix2 (rowAt3 t y) k) := by
  refine congrArg (V (Proc.devRef .tc main_v22_0)) (?_ : ((cfg3.win 0).blk t).view.emb (ix2 y k) = ix2 (rowAt3 t y) k)
  unfold rowAt3
  blk_ext [at3_0]
theorem blk3_1 (t : Fin cfg3.N) (y : Fin 1024) (k : Fin 128) : blk3 V 1 t (ix2 y k) = V (rf main_v22_1) (ix2 (rowAt3 t y) k) := by
  refine congrArg (V (Proc.devRef .tc main_v22_1)) (?_ : ((cfg3.win 1).blk t).view.emb (ix2 y k) = ix2 (rowAt3 t y) k)
  unfold rowAt3
  blk_ext [at3_1]
theorem blk3_2 (t : Fin cfg3.N) : blk3 V 2 t = V (rf main_v6) :=
  funext fun y : S128x128.Idx => congrArg (V (Proc.devRef .tc main_v6)) (by blk_ext [at3_2] : ((cfg3.win 2).blk t).view.emb y = y)
theorem blk3_3 (t : Fin cfg3.N) : blk3 V 3 t = V (rf main_v7) :=
  funext fun y : S128x128.Idx => congrArg (V (Proc.devRef .tc main_v7)) (by blk_ext [at3_3] : ((cfg3.win 3).blk t).view.emb y = y)
theorem blk3_4 (t : Fin cfg3.N) : blk3 V 4 t = V (rf main_v8) :=
  funext fun y : S1x128.Idx => congrArg (V (Proc.devRef .tc main_v8)) (by blk_ext [at3_4] : ((cfg3.win 4).blk t).view.emb y = y)
theorem blk3_5 (t : Fin cfg3.N) : blk3 V 5 t = V (rf main_arg5) :=
  funext fun y : S128x128.Idx => congrArg (V (Proc.devRef .tc main_arg5)) (by blk_ext [at3_5] : ((cfg3.win 5).blk t).view.emb y = y)
theorem blk3_6 (t : Fin cfg3.N) : blk3 V 6 t = V (rf main_v9) :=
  funext fun y : S1x128.Idx => congrArg (V (Proc.devRef .tc main_v9)) (by blk_ext [at3_6] : ((cfg3.win 6).blk t).view.emb y = y)
theorem blk3_7 (t : Fin cfg3.N) : blk3 V 7 t = V (rf main_v10) :=
  funext fun y : S1x128.Idx => congrArg (V (Proc.devRef .tc main_v10)) (by blk_ext [at3_7] : ((cfg3.win 7).blk t).view.emb y = y)
theorem blk3_8 (t : Fin cfg3.N) : blk3 V 8 t = V (rf main_v11) :=
  funext fun y : S1x1.Idx => congrArg (V (Proc.devRef .tc main_v11)) (by blk_ext [at3_8] : ((cfg3.win 8).blk t).view.emb y = y)

/-- What the call leaves of block `t`, at the block's row `y`. -/
theorem out3_apply (h : Weights V w1 b1 w2 b2 w3 b3) (t : Fin cfg3.N) (y : S1x1024.Idx) :
    out3 V t y = score w1 b1 w2 b2 w3 b3 (fun k => (V (rf main_v22_0) : S8192x128.Idx → EReal) (ix2 (rowAt3 t (y 1)) k))
      (fun k => (V (rf main_v22_1) : S8192x128.Idx → EReal) (ix2 (rowAt3 t (y 1)) k)) := by
  unfold out3
  rw [blk3_2, blk3_3, blk3_4, blk3_5, blk3_6, blk3_7, blk3_8]
  refine (dense_apply _ _ _ _ _ _ _ _ w1 b1 (V (rf main_arg5)) b2 w3 b3 h.upper h.lower h.bias1 h.bias2 h.third h.bias3 y).trans ?_
  rw [h.second]
  exact congrArg₂ (score w1 b1 w2 b2 w3 b3) (funext fun k => blk3_0 V t (y 1) k) (funext fun k => blk3_1 V t (y 1) k)

/-- Its blocks are all of its result array. -/
theorem dense3_covers : (cfg3.win 9).Covers := (by decide +kernel : win3_9.Covers)

theorem emb3_9 (t : Fin cfg3.N) (y : S1x1024.Idx) : ((cfg3.win 9).blk t).view.emb y = ix2 (0 : Fin 1) (rowAt3 t (y 1)) := by
  unfold rowAt3
  blk_ext [at3_9]

/-- What the call leaves of each block is that block of an array, where its result at every row of every block is. -/
theorem dense3_arr (n : ℕ) (d : Dev nD) (G : S1x8192.Idx → Elt Ideal .f32) (hG : ∀ t y, out3 V t y = G (ix2 (0 : Fin 1) (rowAt3 t (y 1)))) :
    (dat3 n V d).arrAt 9 cfg3.N = G :=
  Dat.arrAt_eq_of_covers (dat3 n V d) 9 G dense3_covers fun t _ y => (hG t y).trans (congrArg G (emb3_9 t y).symm)

/-- The second dense call's result array when it has run. -/
theorem dense3_result (h : Weights V w1 b1 w2 b2 w3 b3) (n : ℕ) (d : Dev nD) :
    Pipeline.afterRegion (dat3 n V d) V (rf main_v23) = resultRow w1 b1 w2 b2 w3 b3 (V (rf main_v22_0)) (V (rf main_v22_1)) :=
  (Pipeline.afterRegion_arr (dat3 n V d) V launch3.win.arr_inj 9).trans
    (dense3_arr V n d (resultRow w1 b1 w2 b2 w3 b3 (V (rf main_v22_0)) (V (rf main_v22_1))) (out3_apply V h))

end Cert.Rows

end
-- ==== Proof.Result.lean ====
/-
  What the kernel computes: its result at row `i` is the result of the two rows that pair `i` names.
-/
module

public import proofs.«01_k».proof.Proof.Blocks
public import proofs.«01_k».proof.Proof.Reads

@[expose] public section

noncomputable section

namespace Cert.Rows

open Cert.KernelIdeal Cert.KernelIdeal.Gen
open Idealize.ShloMosaic
open Idealize.ShloMosaic.StableHlo (after after_unwritten)
open Idealize.SL.Sem

variable (m : (ℓ : Loc nD τ sig) → Buf (Elt Ideal) ℓ) (d : Dev nD)

/-! ## The weights, as the dense calls find them -/

theorem V1_v6 : V1 m d (rf main_v6) = extractStridedSlice S128x128 ![0, 0] (m ((d.tc : Thread nD τ).loc main_arg3)) slices_S256x128_S128x128_0_0 := by
  show after host1 _ (Proc.devRef .tc main_v6) = _
  unfold host1
  after_reads_simp
theorem V1_v7 : V1 m d (rf main_v7) = extractStridedSlice S128x128 ![128, 0] (m ((d.tc : Thread nD τ).loc main_arg3)) slices_S256x128_S128x128_128_0 := by
  show after host1 _ (Proc.devRef .tc main_v7) = _
  unfold host1
  after_reads_simp
theorem V1_v8 : V1 m d (rf main_v8) = shapeCast S1x128 (m ((d.tc : Thread nD τ).loc main_arg4)) shapeCasts_S128_S1x128 := by
  show after host1 _ (Proc.devRef .tc main_v8) = _
  unfold host1
  after_reads_simp
  rfl
theorem V1_v9 : V1 m d (rf main_v9) = shapeCast S1x128 (m ((d.tc : Thread nD τ).loc main_arg6)) shapeCasts_S128_S1x128 := by
  show after host1 _ (Proc.devRef .tc main_v9) = _
  unfold host1
  after_reads_simp
  rfl
theorem V1_v10 : V1 m d (rf main_v10) = shapeCast S1x128 (m ((d.tc : Thread nD τ).loc main_arg7)) shapeCasts_S128x1_S1x128 := by
  show after host1 _ (Proc.devRef .tc main_v10) = _
  unfold host1
  after_reads_simp
  rfl
theorem V1_v11 : V1 m d (rf main_v11) = shapeCast S1x1 (m ((d.tc : Thread nD τ).loc main_arg8)) shapeCasts_S1_S1x1 := by
  show after host1 _ (Proc.devRef .tc main_v11) = _
  unfold host1
  after_reads_simp
  rfl

/-- The weights of contents that agree with those at the first call. -/
theorem weights_of (V : Valuation τ sig (Elt Ideal))
    (h : ∀ r : Ref sig .tc, r ∉ [main_v16_0, main_v16_1, main_v17, main_v18, main_v19, main_v20, main_v21, main_v22_0, main_v22_1] → V (rf r) = V1 m d (rf r)) :
    Weights V (m ((d.tc : Thread nD τ).loc main_arg3)) (m ((d.tc : Thread nD τ).loc main_arg4)) (m ((d.tc : Thread nD τ).loc main_arg5))
      (m ((d.tc : Thread nD τ).loc main_arg6)) (m ((d.tc : Thread nD τ).loc main_arg7)) (m ((d.tc : Thread nD τ).loc main_arg8)) where
  upper k j := by
    rw [h main_v6 (by decide), V1_v6]
    pointwise
    rfl
  lower k j := by
    rw [h main_v7 (by decide), V1_v7]
    pointwise
    rfl
  bias1 j := by
    rw [h main_v8 (by decide), V1_v8]
    pointwise
  second := (h main_arg5 (by decide)).trans (V1_arg m d main_arg5 (by decide))
  bias2 j := by
    rw [h main_v9 (by decide), V1_v9]
    pointwise
  third j := by
    rw [h main_v10 (by decide), V1_v10]
    pointwise
  bias3 := by
    rw [h main_v11 (by decide), V1_v11]
    pointwise

/-! ## The looked-up rows -/

/-- Row `r` of the rows that half `q` of the pairs looks up is the row of the table that pair `8192 q + r` names. -/
theorem gathered_half {α : Type} (q s : Fin 2) (x : S16384x2.Idx → BitVec 32) (tb : S1000x128.Idx → α) (r : Fin 8192) (k : Fin 128) :
    gathered (half q (column s x)) tb (ix2 r k)
      = tb (ix2 (rowNo (x (ix2 (⟨q.val * 8192 + r.val, by omega⟩ : Fin 16384) s))) k) := by
  unfold gathered half column
  refine congrArg (fun i : Fin 16384 => tb (ix2 (rowNo (x (ix2 i s))) k)) (Fin.ext ?_)
  show q.val * 8192 + r.val / 256 * 256 + r.val % 256 / 128 * 128 + r.val % 128 = _
  show _ = q.val * 8192 + r.val
  omega

/-- The results of half `q` of the pairs. -/
theorem resultRow_half (q : Fin 2) (x : S16384x2.Idx → BitVec 32) (tp tn : S1000x128.Idx → EReal) (w1 : S256x128.Idx → EReal) (b1 : S128.Idx → EReal)
    (w2 : S128x128.Idx → EReal) (b2 : S128.Idx → EReal) (w3 : S128x1.Idx → EReal) (b3 : S1.Idx → EReal) (r : Fin 8192) :
    resultRow w1 b1 w2 b2 w3 b3 (gathered (half q (column 0 x)) tp) (gathered (half q (column 1 x)) tn) (ix2 (0 : Fin 1) r)
      = scores x tp tn w1 b1 w2 b2 w3 b3 ⟨q.val * 8192 + r.val, by omega⟩ :=
  congrArg₂ (score w1 b1 w2 b2 w3 b3) (funext fun k => gathered_half q 0 x tp r k) (funext fun k => gathered_half q 1 x tn r k)

theorem V2_v16_0 : V2 m d (rf main_v16_0) = gathered (half 0 (column 0 (pairs m d))) (m ((d.tc : Thread nD τ).loc main_arg1)) := by
  refine (called_0_fst (V1 m d)).trans ?_
  rw [V1_v13, V1_arg m d main_arg1 (by decide)]
theorem V2_v16_1 : V2 m d (rf main_v16_1) = gathered (half 0 (column 1 (pairs m d))) (m ((d.tc : Thread nD τ).loc main_arg2)) := by
  refine (called_0_snd (V1 m d)).trans ?_
  rw [V1_v15, V1_arg m d main_arg2 (by decide)]
theorem V5_v22_0 : V5 m d (rf main_v22_0) = gathered (half 1 (column 0 (pairs m d))) (m ((d.tc : Thread nD τ).loc main_arg1)) := by
  refine (called_1_fst (V4 m d)).trans ?_
  rw [V4_v19, V4_keeps m d main_arg1 (by decide), V1_arg m d main_arg1 (by decide)]
theorem V5_v22_1 : V5 m d (rf main_v22_1) = gathered (half 1 (column 1 (pairs m d))) (m ((d.tc : Thread nD τ).loc main_arg2)) := by
  refine (called_1_snd (V4 m d)).trans ?_
  rw [V4_v21, V4_keeps m d main_arg2 (by decide), V1_arg m d main_arg2 (by decide)]

/-! ## The result -/

/-- The results of all the pairs, of the arguments at the start. -/
abbrev wanted (i : Fin 16384) : EReal :=
  scores (pairs m d) (m ((d.tc : Thread nD τ).loc main_arg1)) (m ((d.tc : Thread nD τ).loc main_arg2)) (m ((d.tc : Thread nD τ).loc main_arg3))
    (m ((d.tc : Thread nD τ).loc main_arg4)) (m ((d.tc : Thread nD τ).loc main_arg5)) (m ((d.tc : Thread nD τ).loc main_arg6))
    (m ((d.tc : Thread nD τ).loc main_arg7)) (m ((d.tc : Thread nD τ).loc main_arg8)) i

/-- The first dense call's array holds the first half of them, -/
theorem V3_v17 (r : Fin 8192) : (V3 m d (rf main_v17) : S1x8192.Idx → EReal) (ix2 (0 : Fin 1) r) = wanted m d ⟨r.val, by omega⟩ := by
  have w := weights_of m d (V2 m d) fun r h => V2_keeps m d r fun e => h (by revert e; simp only [List.mem_cons, List.not_mem_nil, or_false]; tauto)
  refine (congrFun (dense1_result (V2 m d) w 1 d) (ix2 (0 : Fin 1) r)).trans ?_
  rw [V2_v16_0, V2_v16_1]
  refine (resultRow_half 0 _ _ _ _ _ _ _ _ _ r).trans (congrArg (wanted m d) (Fin.ext ?_))
  show 0 * 8192 + r.val = r.val
  omega

/-- the second dense call's the second half. -/
theorem V6_v23 (r : Fin 8192) : (V6 m d (rf main_v23) : S1x8192.Idx → EReal) (ix2 (0 : Fin 1) r) = wanted m d ⟨8192 + r.val, by omega⟩ := by
  have w := weights_of m d (V5 m d) fun r h =>
    (V5_keeps m d r fun e => h (by revert e; simp only [List.mem_cons, List.not_mem_nil, or_false]; tauto)).trans
      (V4_keeps m d r fun e => h (by revert e; simp only [written2, List.mem_cons, List.not_mem_nil, or_false]; tauto))
  refine (congrFun (dense3_result (V5 m d) w 2 d) (ix2 (0 : Fin 1) r)).trans ?_
  rw [V5_v22_0, V5_v22_1]
  refine (resultRow_half 1 _ _ _ _ _ _ _ _ _ r).trans (congrArg (wanted m d) (Fin.ext ?_))
  show 1 * 8192 + r.val = 8192 + r.val
  omega

theorem V6_v17 : V6 m d (rf main_v17) = V3 m d (rf main_v17) :=
  (V6_keeps m d main_v17 (by decide)).trans (after_unwritten written2 host2_writes (by decide) _)

theorem V7_v25 : V7 m d (rf main_v25) = shapeCast S16384x1 (concatenate S1x16384 1 [⟨S1x8192, V6 m d (rf main_v17)⟩, ⟨S1x8192, V6 m d (rf main_v23)⟩]
    concatenates_S1x8192_S1x8192_S1x16384_d1) shapeCasts_S1x16384_S16384x1 := by
  show after host3 _ (Proc.devRef .tc main_v25) = _
  unfold host3
  after_reads_simp
  rfl

/-- The kernel's result at row `i` is the result of the two rows that pair `i` names. -/
theorem kernel_result (y : S16384x1.Idx) : (V7 m d (rf main_v25) : S16384x1.Idx → EReal) y = wanted m d (y 0) := by
  rw [V7_v25]
  pointwise
  split
  · rename_i h
    rw [V6_v17]
    exact V3_v17 m d ⟨(y 0).val, h⟩
  · rename_i h
    have b : (y 0).val < 16384 := (y 0).isLt
    refine (V6_v23 m d ⟨(y 0).val - 8192, by omega⟩).trans (congrArg (wanted m d) (Fin.ext ?_))
    show 8192 + ((y 0).val - 8192) = (y 0).val
    omega

end Cert.Rows

end
-- ==== Proof.Lengths.lean ====
/-
  Dividing a row by its length, over the extended reals: the quotient by the root of the squared length, the root counting as
  no less than E, is the product with the reciprocal root of the squared length, which counts as no less than E².
-/
module

public import proofs.«01_k».proof.Proof.Score

@[expose] public section

noncomputable section

namespace Cert.Rows

open Cert.KernelIdeal Cert.KernelIdeal.Gen
open Idealize.ShloMosaic

/-- The value of the reference's f32 word for 1e-12. -/
def leastLength : ℝ := 2305843 / 2305843009213693952

theorem leastLength_pos : 0 < leastLength := by unfold leastLength; norm_num

/-- The word means it. -/
theorem word_leastLength : Ideal.ofBits .f32 0x2B8CBCCC#32 = (leastLength : EReal) := by
  unfold leastLength
  simp [Ideal.ofBits, Ideal.ieee, -EReal.coe_mul]
  norm_num

/-- The kernel's named constant is its square. -/
theorem epsSq_eq : epsSq = ((leastLength ^ 2 : ℝ) : EReal) := by
  unfold epsSq leastLength
  rw [IdealRules.named_const.ideal_named_scalar κ "eps_sq" _ _ rfl]
  norm_num

/-- A square is not negative, -/
theorem square_nonneg (a : EReal) : 0 ≤ a * a := by
  induction a with
  | bot => simp
  | top => simp
  | coe r => exact_mod_cast mul_self_nonneg r

/-- nor is a sum of squares. -/
theorem squares_nonneg (v : Fin 128 → EReal) : 0 ≤ ∑ i, v i * v i := Finset.sum_nonneg fun i _ => square_nonneg (v i)

/-- The quotient and the product agree. -/
theorem div_root {e : ℝ} (he : 0 < e) (x s : EReal) (hs : 0 ≤ s) :
    Ideal.div x (max (e : EReal) (Ideal.sqrt s)) = x * Ideal.rsqrt (max s ((e ^ 2 : ℝ) : EReal)) := by
  induction s with
  | bot => exact absurd hs (by simp)
  | top => simp [Ideal.sqrt_top, Ideal.rsqrt_top, Ideal.div]
  | coe r =>
    have hr : 0 ≤ r := by exact_mod_cast hs
    have hm : 0 < max r (e ^ 2) := lt_max_of_lt_right (by positivity)
    have root : Real.sqrt (max r (e ^ 2)) = max e (Real.sqrt r) := by
      rw [max_comm, Monotone.map_max (f := Real.sqrt) fun _ _ h => Real.sqrt_le_sqrt h, Real.sqrt_sq he.le]
    have pos : 0 < max e (Real.sqrt r) := lt_max_of_lt_left he
    have l : Ideal.sqrt (r : EReal) = (Real.sqrt r : EReal) := if_neg (not_lt.mpr hr)
    have rr : Ideal.rsqrt ((max r (e ^ 2) : ℝ) : EReal) = ((Real.sqrt (max r (e ^ 2)))⁻¹ : ℝ) :=
      (if_neg (not_lt.mpr hm.le)).trans (if_neg hm.ne')
    have mx (a b : ℝ) : max (a : EReal) (b : EReal) = ((max a b : ℝ) : EReal) := (Monotone.map_max EReal.coe_strictMono.monotone).symm
    rw [l, mx, mx, rr, root, Ideal.div_coe pos.ne', one_div]

/-- A row divided by its length, as the reference divides it, is the row as the kernel scales it. -/
theorem div_length (v : Fin 128 → EReal) (k : Fin 128) :
    Ideal.div (v k) (max (Ideal.ofBits .f32 0x2B8CBCCC#32) (Ideal.sqrt (∑ i, v i * v i))) = scaled v k := by
  rw [word_leastLength]
  unfold scaled
  rw [epsSq_eq]
  exact div_root leastLength_pos _ _ (squares_nonneg v)

end Cert.Rows

end
-- ==== Proof.Reference.lean ====
/-
  What the reference computes: its result at row `i` is the result of the two rows the pair names.
-/
module

public import proofs.«01_k».proof.Proof.Lengths
public import proofs.«01_k».proof.Proof.Gen.ReferenceIdeal.Run
public import Idealize.ShloMosaic.Lib.ReduceAll

@[expose] public section

noncomputable section

namespace Cert.Rows

open Idealize.ShloMosaic
open Cert.ReferenceIdeal Cert.ReferenceIdeal.Gen

/-- A word that is a row number below 1000 is not negative, -/
theorem not_neg_of_lt {w : BitVec 32} (h : w.toNat < 1000) : IntOp.cmpi .slt w 0#32 = 0#1 := by
  have : ¬ w.toInt < 0 := by rw [BitVec.toInt_eq_toNat_cond]; split <;> omega
  simp [IntOp.cmpi, BitVec.slt_eq_decide, this]
/-- is at least 0, -/
theorem zero_le_of_lt {w : BitVec 32} (h : w.toNat < 1000) : IntOp.cmpi .sge w 0#32 = 1#1 := by
  have : 0 ≤ w.toInt := by rw [BitVec.toInt_eq_toNat_cond]; split <;> omega
  simp [IntOp.cmpi, BitVec.sle_eq_decide, this]
/-- and at most 999. -/
theorem le_last_of_lt {w : BitVec 32} (h : w.toNat < 1000) : IntOp.cmpi .sle w 999#32 = 1#1 := by
  have : w.toInt ≤ 999 := by rw [BitVec.toInt_eq_toNat_cond]; split <;> omega
  simp [IntOp.cmpi, BitVec.sle_eq_decide, this]

/-- The dimension numbers of the reference's gather: a row of a table by its number. -/
abbrev byRow := gather_S1000x128_S16384x1_S16384x128_1_0_n_n_0_1_1128

/-- The row number of result row `i` is entry `i` of the start indices. -/
theorem byRow_siIdx (y : S16384x128.Idx) (k) : GatherDims.siIdx byRow y k = ix2 (y 0 : Fin 16384) (0 : Fin 1) := by
  have k0 : k = ⟨0, Nat.one_pos⟩ := Subsingleton.elim (α := Fin 1) _ _
  subst k0
  funext b
  match b with
  | ⟨0, _⟩ => rfl
  | ⟨1, _⟩ => rfl

/-- The reference's gather, of row numbers below 1000: row `i` is the row of the table that number `i` names. -/
theorem gather_rows {α : Type} (tb : S1000x128.Idx → α) (r : S16384x1.Idx → BitVec 32) (h : ∀ i, (r i).toNat < 1000) :
    Host.gather byRow tb r = fun y => tb (ix2 (rowNo (r (ix2 (y 0 : Fin 16384) (0 : Fin 1)))) (y 1 : Fin 128)) := by
  funext y
  have b := h (ix2 (y 0 : Fin 16384) (0 : Fin 1))
  have signed : (r (ix2 (y 0 : Fin 16384) (0 : Fin 1))).toInt.toNat = (r (ix2 (y 0 : Fin 16384) (0 : Fin 1))).toNat := by
    rw [BitVec.toInt_eq_toNat_cond]; split <;> omega
  have row : GatherDims.start byRow y r 0 = (r (ix2 (y 0 : Fin 16384) (0 : Fin 1))).toNat := by
    have e : GatherDims.start byRow y r 0 = min (r (GatherDims.siIdx byRow y ⟨0, Nat.one_pos⟩)).toInt.toNat 999 := rfl
    exact e.trans ((congrArg (fun i => min (r i).toInt.toNat 999) (byRow_siIdx y _)).trans
      ((congrArg (min · 999) signed).trans (min_eq_left (by omega))))
  refine congrArg tb (funext fun a => Fin.ext ?_)
  match a with
  | ⟨0, _⟩ =>
    show GatherDims.start byRow y r 0 + 0 + 0 = (r (ix2 (y 0 : Fin 16384) (0 : Fin 1))).toNat % 1000
    rw [row]
    omega
  | ⟨1, _⟩ =>
    show 0 + 0 + (y 1).val = (y 1).val
    omega

/-- Column `s` of the pairs as the reference reads it: it would count a negative row number from the end. -/
theorem wrapped (col : S16384.Idx → BitVec 32) (h : ∀ i, (col i).toNat < 1000) :
    select (cmpi .slt col (broadcastInDim S16384 ![] bcast_S_S16384 (constantI S_ 32 0#32)))
      (addi col (broadcastInDim S16384 ![] bcast_S_S16384 (constantI S_ 32 1000#32))) col = col := by
  funext i
  pointwise
  rw [not_neg_of_lt (h i)]
  rfl

/-- The reference's lookup of row numbers below 1000, whatever it would put for a row number outside the table. -/
theorem taken {α : Type} (col : S16384.Idx → BitVec 32) (h : ∀ i, (col i).toNat < 1000) (tb other : S16384x128.Idx → α) :
    select (broadcastInDim S16384x128 ![0] bcast_S16384_S16384x128_0 (Host.reduce IntOp.andi
      (andi (cmpi .sge (broadcastInDim S16384x1 ![0] bcast_S16384_S16384x1_0 col) (broadcastInDim S16384x1 ![] bcast_S_S16384x1 (constantI S_ 32 0#32)))
        (cmpi .sle (broadcastInDim S16384x1 ![0] bcast_S16384_S16384x1_0 col)
          (broadcastInDim S16384x1 ![0, 1] bcast_S1x1_S16384x1_0_1 (broadcastInDim S1x1 ![1] bcast_S1_S1x1_1 (constantI S1 32 999#32)))))
      (constantI S_ 1 1#1) reducesTo_S16384x1_S16384_d1 h_S_)) tb other = tb := by
  funext y
  have one : Host.reduce IntOp.andi
      (andi (cmpi .sge (broadcastInDim S16384x1 ![0] bcast_S16384_S16384x1_0 col) (broadcastInDim S16384x1 ![] bcast_S_S16384x1 (constantI S_ 32 0#32)))
        (cmpi .sle (broadcastInDim S16384x1 ![0] bcast_S16384_S16384x1_0 col)
          (broadcastInDim S16384x1 ![0, 1] bcast_S1x1_S16384x1_0_1 (broadcastInDim S1x1 ![1] bcast_S1_S1x1_1 (constantI S1 32 999#32)))))
      (constantI S_ 1 1#1) reducesTo_S16384x1_S16384_d1 h_S_ = fun _ => 1#1 := funext fun j => by
    refine Host.reduce_andi_one _ _ _ _ _ rfl fun i => ?_
    pointwise
    rw [zero_le_of_lt (h _), le_last_of_lt (h _)]
    rfl
  rw [one]
  rfl

/-- Column `s` of the pairs. -/
def colOf (x : S16384x2.Idx → BitVec 32) (s : Fin 2) : S16384.Idx → BitVec 32 := fun i => x (ix2 (i 0 : Fin 16384) s)

theorem colOf_0 (x : S16384x2.Idx → BitVec 32) :
    shapeCast S16384 (extractStridedSlice S16384x1 ![0, 0] x slices_S16384x2_S16384x1_0_0) shapeCasts_S16384x1_S16384 = colOf x 0 := by
  funext i
  pointwise
  rfl
theorem colOf_1 (x : S16384x2.Idx → BitVec 32) :
    shapeCast S16384 (extractStridedSlice S16384x1 ![0, 1] x slices_S16384x2_S16384x1_0_1) shapeCasts_S16384x1_S16384 = colOf x 1 := by
  funext i
  pointwise
  rfl

/-- The rows of a table that the row numbers name. -/
def looked {α : Type} (tb : S1000x128.Idx → α) (col : S16384.Idx → BitVec 32) : S16384x128.Idx → α :=
  fun y => tb (ix2 (rowNo (col (ix1 (y 0 : Fin 16384)))) (y 1 : Fin 128))

theorem rows_gather {α : Type} (tb : S1000x128.Idx → α) (col : S16384.Idx → BitVec 32) (h : ∀ i, (col i).toNat < 1000) :
    Host.gather byRow tb (broadcastInDim S16384x1 ![0] bcast_S16384_S16384x1_0 col) = looked tb col := by
  have e : broadcastInDim S16384x1 ![0] bcast_S16384_S16384x1_0 col = fun i => col (ix1 (i 0 : Fin 16384)) := by
    funext i
    pointwise
  rw [e]
  exact gather_rows tb (fun i => col (ix1 (i 0 : Fin 16384))) fun i => h (ix1 (i 0 : Fin 16384))

variable (m : (ℓ : Loc nD τ sig) → Buf (Elt Ideal) ℓ) (c : Dev nD)

/-- The reference's result at row `i` is the result of the two rows that pair `i` names. -/
theorem reference_result (h : ∀ i, ((m (c.tc.loc main_arg0) : S16384x2.Idx → BitVec 32) i).toNat < 1000) (y : S16384x1.Idx) :
    Cert.ReferenceIdeal.Value.res_main_v28 m c y
      = scores (m (c.tc.loc main_arg0)) (m (c.tc.loc main_arg1)) (m (c.tc.loc main_arg2)) (m (c.tc.loc main_arg3)) (m (c.tc.loc main_arg4))
          (m (c.tc.loc main_arg5)) (m (c.tc.loc main_arg6)) (m (c.tc.loc main_arg7)) (m (c.tc.loc main_arg8)) (y 0) := by
  have h0 : ∀ i, (colOf (m (c.tc.loc main_arg0)) 0 i).toNat < 1000 := fun i => h _
  have h1 : ∀ i, (colOf (m (c.tc.loc main_arg0)) 1 i).toNat < 1000 := fun i => h _
  unfold Cert.ReferenceIdeal.Value.res_main_v28
  rw [colOf_0, colOf_1, wrapped _ h0, wrapped _ h1, taken _ h0, taken _ h1, rows_gather _ _ h0, rows_gather _ _ h1]
  pointwise
  have y1 : y 1 = (0 : Fin 1) := Subsingleton.elim (α := Fin 1) _ _
  simp only [y1, scores, score, layer3, layer2, layer1]
  refine congrArg (· + _) (Finset.sum_congr rfl fun j _ => congrArg (· * _) (congrArg (max · 0) (congrArg (· + _) (Finset.sum_congr rfl fun k _ =>
    congrArg (· * _) (congrArg (max · 0) (congrArg (· + _) (congrArg₂ (· + ·) (Finset.sum_congr rfl fun i _ => ?_)
      (Finset.sum_congr rfl fun i _ => ?_))))))))
  · exact congrArg (· * _) (div_length (fun k => looked (m (c.tc.loc main_arg1)) (colOf (m (c.tc.loc main_arg0)) 0) (ix2 (y 0 : Fin 16384) k)) i)
  · exact congrArg (· * _) (div_length (fun k => looked (m (c.tc.loc main_arg2)) (colOf (m (c.tc.loc main_arg0)) 1) (ix2 (y 0 : Fin 16384) k)) i)

end Cert.Rows

end
-- ==== Proof.Agree.lean ====
/-
  The kernel and the reference, over the extended reals: from equal arguments, every entry of the pairs a row of the tables,
  both end with the same results.
-/
module

public import proofs.«01_k».proof.Defs
public import proofs.«01_k».proof.Proof.Result
public import proofs.«01_k».proof.Proof.Reference
public import proofs.«01_k».proof.Proof.Frames

@[expose] public section

noncomputable section

namespace Cert.Rows

open Idealize.ShloMosaic
open Idealize.SL.Sem

/-- The reference's frame, which needs no precondition, under the kernel's. -/
theorem frame_reference_pre : Cert.quiescent_ReferenceIdeal_pre_in_range := fun m ρ _ => frame_reference m ρ trivial

/-- The reference's result array, of arguments named one by one. -/
theorem reference_result_of (m : (ℓ : Loc Cert.ReferenceIdeal.nD Cert.ReferenceIdeal.τ Cert.ReferenceIdeal.sig) → Buf (Elt Ideal) ℓ) (c : Dev Cert.ReferenceIdeal.nD)
    (x : Cert.KernelIdeal.S16384x2.Idx → BitVec 32) (tp tn : Cert.KernelIdeal.S1000x128.Idx → EReal) (w1 : Cert.KernelIdeal.S256x128.Idx → EReal)
    (b1 : Cert.KernelIdeal.S128.Idx → EReal) (w2 : Cert.KernelIdeal.S128x128.Idx → EReal) (b2 : Cert.KernelIdeal.S128.Idx → EReal)
    (w3 : Cert.KernelIdeal.S128x1.Idx → EReal) (b3 : Cert.KernelIdeal.S1.Idx → EReal)
    (e0 : m (c.tc.loc Cert.ReferenceIdeal.main_arg0) = x) (e1 : m (c.tc.loc Cert.ReferenceIdeal.main_arg1) = tp) (e2 : m (c.tc.loc Cert.ReferenceIdeal.main_arg2) = tn)
    (e3 : m (c.tc.loc Cert.ReferenceIdeal.main_arg3) = w1) (e4 : m (c.tc.loc Cert.ReferenceIdeal.main_arg4) = b1) (e5 : m (c.tc.loc Cert.ReferenceIdeal.main_arg5) = w2)
    (e6 : m (c.tc.loc Cert.ReferenceIdeal.main_arg6) = b2) (e7 : m (c.tc.loc Cert.ReferenceIdeal.main_arg7) = w3) (e8 : m (c.tc.loc Cert.ReferenceIdeal.main_arg8) = b3)
    (h : ∀ i, (x i).toNat < 1000) :
    Cert.ReferenceIdeal.Value.res_main_v28 m c = fun y : Cert.KernelIdeal.S16384x1.Idx => scores x tp tn w1 b1 w2 b2 w3 b3 (y 0) := by
  subst e0 e1 e2 e3 e4 e5 e6 e7 e8
  exact funext fun y => reference_result m c h y

/-- The kernel and the reference end with equal results and their arguments unchanged. -/
theorem agree : Cert.algebraic_KernelIdeal_ReferenceIdeal := fun m ρ m' ρ' hp hm =>
  have h (d) (i) : (pairs m d i).toNat < 1000 := below_of_pre (pairs m d) (hp d) i
  ⟨fun d => V7 m d (rf Cert.KernelIdeal.main_v25),
    (θ_run Cert.KernelIdeal.defs _ _).mono (fun _ r d => ⟨r.1 d _ rfl, args_kept m (r.1 d)⟩) (run_whole (F := Ideal) m ρ h),
    (θ_run Cert.ReferenceIdeal.defs _ _).mono
      (fun _ r c =>
        have ⟨e0, e1, e2, e3, e4, e5, e6, e7, e8⟩ := hm c
        ⟨(r c).1.trans ((reference_result_of m' c _ _ _ _ _ _ _ _ _ e0 e1 e2 e3 e4 e5 e6 e7 e8 (h c)).trans
          (funext fun y => (kernel_result m c y).symm)), (r c).2⟩)
      (Cert.ReferenceIdeal.Value.run (F := Ideal) m' ρ')⟩

end Cert.Rows

end
-- ==== Proof.lean ====
/- The certificate's claims, put together: the three programs' frames (Frames.lean, Words.lean, Agree.lean), the named
   constant (Frames.lean) and the equation of kernel and reference over the extended reals (Agree.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Words
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts, Cert.Pre_in_range.Gen.facts,
  Cert.Rows.frame_words, Cert.Rows.frame_ideal, Cert.Rows.frame_reference, Cert.Rows.frame_reference_pre,
  Cert.Rows.named_kept, Cert.Rows.agree⟩

end Cert.Proof

end
